-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v20)) (v2 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_v22) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_v90) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S1x20000x81 : Shape := ⟨3, ![1, 20000, 81]⟩
abbrev S1x20000x4 : Shape := ⟨3, ![1, 20000, 4]⟩
abbrev S_ : Shape := ⟨0, ![]⟩

class Facts : Prop where
  bcast_S_S1x20000x81 : S_.BroadcastsInDim S1x20000x81 (![] : Fin 0 → Fin S1x20000x81.rank)
  reducesTo_S1x20000x81_S_d0_1_2 : S1x20000x81.ReducesTo [0, 1, 2] S_
  h_S_ : 0 < S_.numel
  bcast_S_S1x20000x4 : S_.BroadcastsInDim S1x20000x4 (![] : Fin 0 → Fin S1x20000x4.rank)
  reducesTo_S1x20000x4_S_d0_1_2 : S1x20000x4.ReducesTo [0, 1, 2] S_

variable [Facts]

def fn {F : FTy → Type} [FloatOps F] (main_arg0 : FVec F S1x20000x81 .f32) (main_arg1 : FVec F S1x20000x4 .f32) : IVec S_ 1 :=
  let main_cst : FVec F S_ .f32 := constant S_ .f32 0xBF800000#32
  let main_v0 : FVec F S1x20000x81 .f32 := broadcastInDim S1x20000x81 ![] bcast_S_S1x20000x81 main_cst
  let main_v1 : IVec S1x20000x81 1 := cmpf .ogt main_arg0 main_v0
  let main_c : IVec S_ 1 := constantI S_ 1 1#1
  let main_v2 : IVec S_ 1 := (fun x v => Host.reduce IntOp.andi x v reducesTo_S1x20000x81_S_d0_1_2 h_S_) main_v1 main_c
  let main_cst_0 : FVec F S_ .f32 := constant S_ .f32 0x00000000#32
  let main_v3 : FVec F S1x20000x4 .f32 := broadcastInDim S1x20000x4 ![] bcast_S_S1x20000x4 main_cst_0
  let main_v4 : IVec S1x20000x4 1 := cmpf .oge main_arg1 main_v3
  let main_c_1 : IVec S_ 1 := constantI S_ 1 1#1
  let main_v5 : IVec S_ 1 := (fun x v => Host.reduce IntOp.andi x v reducesTo_S1x20000x4_S_d0_1_2 h_S_) main_v4 main_c_1
  let main_v6 : IVec S_ 1 := andi main_v2 main_v5
  main_v6
-- ==== Kernel.lean ====
abbrev S1x20000x81 : Shape := ⟨3, ![1, 20000, 81]⟩
abbrev S1x20000x4 : Shape := ⟨3, ![1, 20000, 4]⟩
abbrev S20000x81 : Shape := ⟨2, ![20000, 81]⟩
abbrev S20000x4 : Shape := ⟨2, ![20000, 4]⟩
abbrev S81x20000 : Shape := ⟨2, ![81, 20000]⟩
abbrev S1x20000 : Shape := ⟨2, ![1, 20000]⟩
abbrev S20000 : Shape := ⟨1, ![20000]⟩
abbrev S1000 : Shape := ⟨1, ![1000]⟩
abbrev S_ : Shape := ⟨0, ![]⟩
abbrev S1000x1 : Shape := ⟨2, ![1000, 1]⟩
abbrev S1 : Shape := ⟨1, ![1]⟩
abbrev S1x1 : Shape := ⟨2, ![1, 1]⟩
abbrev S1000x4 : Shape := ⟨2, ![1000, 4]⟩
abbrev S1024 : Shape := ⟨1, ![1024]⟩
abbrev S1024x4 : Shape := ⟨2, ![1024, 4]⟩
abbrev S4x1024 : Shape := ⟨2, ![4, 1024]⟩
abbrev S1x1024 : Shape := ⟨2, ![1, 1024]⟩
abbrev S1024x1 : Shape := ⟨2, ![1024, 1]⟩
abbrev S1024x1024 : Shape := ⟨2, ![1024, 1024]⟩
abbrev S1x1024x4 : Shape := ⟨3, ![1, 1024, 4]⟩
abbrev S1x1x1 : Shape := ⟨3, ![1, 1, 1]⟩
abbrev S8x1 : Shape := ⟨2, ![8, 1]⟩
abbrev S8x1024 : Shape := ⟨2, ![8, 1024]⟩
abbrev S1x1x1024 : Shape := ⟨3, ![1, 1, 1024]⟩
abbrev S8x8 : Shape := ⟨2, ![8, 8]⟩
abbrev S4x1 : Shape := ⟨2, ![4, 1]⟩
abbrev S1x1000 : Shape := ⟨2, ![1, 1000]⟩

abbrev nBuf : Space → Nat
  | .hbm => 79
  | .vmem => 12
  | .smem => 0
  | _ => 0

abbrev bufTy : (tb : Table) → Fin (tcTables nBuf tb) → BufTy
  | .hbm, ⟨0, _⟩ => ⟨S1x20000x81, .f32⟩
  | .hbm, ⟨1, _⟩ => ⟨S1x20000x4, .f32⟩
  | .hbm, ⟨2, _⟩ => ⟨S20000x81, .f32⟩
  | .hbm, ⟨3, _⟩ => ⟨S20000x4, .f32⟩
  | .hbm, ⟨4, _⟩ => ⟨S81x20000, .f32⟩
  | .hbm, ⟨5, _⟩ => ⟨S1x20000, .f32⟩
  | .hbm, ⟨6, _⟩ => ⟨S1x20000, .i32⟩
  | .hbm, ⟨7, _⟩ => ⟨S20000, .f32⟩
  | .hbm, ⟨8, _⟩ => ⟨S20000, .i32⟩
  | .hbm, ⟨9, _⟩ => ⟨S1000, .f32⟩
  | .hbm, ⟨10, _⟩ => ⟨S1000, .i32⟩
  | .hbm, ⟨11, _⟩ => ⟨S_, .i32⟩
  | .hbm, ⟨12, _⟩ => ⟨S1000, .i32⟩
  | .hbm, ⟨13, _⟩ => ⟨S1000, .i1⟩
  | .hbm, ⟨14, _⟩ => ⟨S_, .i32⟩
  | .hbm, ⟨15, _⟩ => ⟨S1000, .i32⟩
  | .hbm, ⟨16, _⟩ => ⟨S1000, .i32⟩
  | .hbm, ⟨17, _⟩ => ⟨S1000, .i32⟩
  | .hbm, ⟨18, _⟩ => ⟨S1000x1, .i32⟩
  | .hbm, ⟨19, _⟩ => ⟨S1, .i32⟩
  | .hbm, ⟨20, _⟩ => ⟨S_, .i32⟩
  | .hbm, ⟨21, _⟩ => ⟨S1000x1, .i32⟩
  | .hbm, ⟨22, _⟩ => ⟨S1000x1, .i1⟩
  | .hbm, ⟨23, _⟩ => ⟨S1x1, .i32⟩
  | .hbm, ⟨24, _⟩ => ⟨S1000x1, .i32⟩
  | .hbm, ⟨25, _⟩ => ⟨S1000x1, .i1⟩
  | .hbm, ⟨26, _⟩ => ⟨S1000x1, .i1⟩
  | .hbm, ⟨27, _⟩ => ⟨S_, .i1⟩
  | .hbm, ⟨28, _⟩ => ⟨S1000, .i1⟩
  | .hbm, ⟨29, _⟩ => ⟨S1000x4, .f32⟩
  | .hbm, ⟨30, _⟩ => ⟨S1000x4, .i1⟩
  | .hbm, ⟨31, _⟩ => ⟨S_, .f32⟩
  | .hbm, ⟨32, _⟩ => ⟨S1000x4, .f32⟩
  | .hbm, ⟨33, _⟩ => ⟨S1000x4, .f32⟩
  | .hbm, ⟨34, _⟩ => ⟨S_, .i32⟩
  | .hbm, ⟨35, _⟩ => ⟨S1000, .i32⟩
  | .hbm, ⟨36, _⟩ => ⟨S1000, .i1⟩
  | .hbm, ⟨37, _⟩ => ⟨S_, .i32⟩
  | .hbm, ⟨38, _⟩ => ⟨S1000, .i32⟩
  | .hbm, ⟨39, _⟩ => ⟨S1000, .i32⟩
  | .hbm, ⟨40, _⟩ => ⟨S1000, .i32⟩
  | .hbm, ⟨41, _⟩ => ⟨S1000x1, .i32⟩
  | .hbm, ⟨42, _⟩ => ⟨S1, .i32⟩
  | .hbm, ⟨43, _⟩ => ⟨S_, .i32⟩
  | .hbm, ⟨44, _⟩ => ⟨S1000x1, .i32⟩
  | .hbm, ⟨45, _⟩ => ⟨S1000x1, .i1⟩
  | .hbm, ⟨46, _⟩ => ⟨S1x1, .i32⟩
  | .hbm, ⟨47, _⟩ => ⟨S1000x1, .i32⟩
  | .hbm, ⟨48, _⟩ => ⟨S1000x1, .i1⟩
  | .hbm, ⟨49, _⟩ => ⟨S1000x1, .i1⟩
  | .hbm, ⟨50, _⟩ => ⟨S_, .i1⟩
  | .hbm, ⟨51, _⟩ => ⟨S1000, .i1⟩
  | .hbm, ⟨52, _⟩ => ⟨S1000, .i32⟩
  | .hbm, ⟨53, _⟩ => ⟨S_, .i32⟩
  | .hbm, ⟨54, _⟩ => ⟨S1000, .i32⟩
  | .hbm, ⟨55, _⟩ => ⟨S1000, .i32⟩
  | .hbm, ⟨56, _⟩ => ⟨S_, .i32⟩
  | .hbm, ⟨57, _⟩ => ⟨S_, .f32⟩
  | .hbm, ⟨58, _⟩ => ⟨S1024, .f32⟩
  | .hbm, ⟨59, _⟩ => ⟨S_, .i32⟩
  | .hbm, ⟨60, _⟩ => ⟨S_, .f32⟩
  | .hbm, ⟨61, _⟩ => ⟨S1024x4, .f32⟩
  | .hbm, ⟨62, _⟩ => ⟨S_, .i32⟩
  | .hbm, ⟨63, _⟩ => ⟨S_, .i32⟩
  | .hbm, ⟨64, _⟩ => ⟨S1024, .i32⟩
  | .hbm, ⟨65, _⟩ => ⟨S4x1024, .f32⟩
  | .hbm, ⟨66, _⟩ => ⟨S1x1024, .f32⟩
  | .hbm, ⟨67, _⟩ => ⟨S1x1024, .i32⟩
  | .hbm, ⟨68, _⟩ => ⟨S1024, .f32⟩
  | .hbm, ⟨69, _⟩ => ⟨S1024x1, .f32⟩
  | .hbm, ⟨70, _⟩ => ⟨S4x1024, .f32⟩
  | .hbm, ⟨71, _⟩ => ⟨S1x1024, .i32⟩
  | .hbm, ⟨72, _⟩ => ⟨S1x1024, .f32⟩
  | .hbm, ⟨73, _⟩ => ⟨S1024x4, .f32⟩
  | .hbm, ⟨74, _⟩ => ⟨S1000x4, .f32⟩
  | .hbm, ⟨75, _⟩ => ⟨S1x1000, .i32⟩
  | .hbm, ⟨76, _⟩ => ⟨S1000, .i32⟩
  | .hbm, ⟨77, _⟩ => ⟨S1x1000, .f32⟩
  | .hbm, ⟨78, _⟩ => ⟨S1000, .f32⟩
  | .local _ .vmem, ⟨0, _⟩ => ⟨S81x20000, .f32⟩
  | .local _ .vmem, ⟨1, _⟩ => ⟨S1x20000, .f32⟩
  | .local _ .vmem, ⟨2, _⟩ => ⟨S1x20000, .i32⟩
  | .local _ .vmem, ⟨3, _⟩ => ⟨S4x1024, .f32⟩
  | .local _ .vmem, ⟨4, _⟩ => ⟨S1024x4, .f32⟩
  | .local _ .vmem, ⟨5, _⟩ => ⟨S1x1024, .f32⟩
  | .local _ .vmem, ⟨6, _⟩ => ⟨S1x1024, .i32⟩
  | .local _ .vmem, ⟨7, _⟩ => ⟨S1024x1, .f32⟩
  | .local _ .vmem, ⟨8, _⟩ => ⟨S4x1024, .f32⟩
  | .local _ .vmem, ⟨9, _⟩ => ⟨S1x1024, .i32⟩
  | .local _ .vmem, ⟨10, _⟩ => ⟨S1x1024, .f32⟩
  | .local _ .vmem, ⟨11, _⟩ => ⟨S1024x1024, .f32⟩
  | _, _ => ⟨S1x20000x81, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v4 : Ref sig .tc := ⟨.hbm, 7, rfl⟩
abbrev main_v5 : Ref sig .tc := ⟨.hbm, 8, rfl⟩
abbrev main_values : Ref sig .tc := ⟨.hbm, 9, rfl⟩
abbrev main_indices : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v6 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_c_4 : Ref sig .tc := ⟨.hbm, 53, rfl⟩
abbrev main_call1_v14 : Ref sig .tc := ⟨.hbm, 54, rfl⟩
abbrev main_v7 : Ref sig .tc := ⟨.hbm, 55, rfl⟩
abbrev main_c : Ref sig .tc := ⟨.hbm, 56, rfl⟩
abbrev main_call2_v0 : Ref sig .tc := ⟨.hbm, 57, rfl⟩
abbrev main_v8 : Ref sig .tc := ⟨.hbm, 58, rfl⟩
abbrev main_c_0 : Ref sig .tc := ⟨.hbm, 59, rfl⟩
abbrev main_call3_v0 : Ref sig .tc := ⟨.hbm, 60, rfl⟩
abbrev main_v9 : Ref sig .tc := ⟨.hbm, 61, rfl⟩
abbrev main_c_1 : Ref sig .tc := ⟨.hbm, 62, rfl⟩
abbrev main_call4_v0 : Ref sig .tc := ⟨.hbm, 63, rfl⟩
abbrev main_v10 : Ref sig .tc := ⟨.hbm, 64, rfl⟩
abbrev main_v11 : Ref sig .tc := ⟨.hbm, 65, rfl⟩
abbrev main_v12 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_v16_0 : Ref sig .tc := ⟨.hbm, 70, rfl⟩
abbrev main_v16_1 : Ref sig .tc := ⟨.hbm, 71, rfl⟩
abbrev main_v16_2 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev main_v22 : Ref sig .tc := ⟨.hbm, 78, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg5_0 : Ref sig .tc := ⟨.vmem, 8, rfl⟩
abbrev cc1_stg6_0 : Ref sig .tc := ⟨.vmem, 9, rfl⟩
abbrev cc1_stg7_0 : Ref sig .tc := ⟨.vmem, 10, rfl⟩
abbrev cc1_scratch0 : Ref sig .tc := ⟨.vmem, 11, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem2_0 : DmaSem sig := 5
abbrev cc1_sem3_0 : DmaSem sig := 6
abbrev cc1_sem4_0 : DmaSem sig := 7
abbrev cc1_sem5_0 : DmaSem sig := 8
abbrev cc1_sem6_0 : DmaSem sig := 9
abbrev cc1_sem7_0 : DmaSem sig := 10

abbrev nD : Nat := 1
abbrev τ : Topo := Topo.v7x

variable {F : FTy → Type} [FloatOps F]

abbrev grid0 : Pipeline.Grid := .none

abbrev stage0_0 : Fin 1 → Memref sig .tc .vmem S81x20000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x20000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x20000 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := .none

@[reducible] def k1_t1_loop : Scf.Loop 32 :=
  let c0_i32 : BitVec 32 := 0#32
  let c125_i32 : BitVec 32 := 125#32
  let v86 : BitVec 32 := Scalar.addi c0_i32 c125_i32
  let c1_i32 : BitVec 32 := 1#32
  ⟨c0_i32, v86, c1_i32⟩
def k1_off1 (k1_t1 : Fin k1_t1_loop.trips) : Fin 2 → Nat :=
  let c0_i32 : BitVec 32 := 0#32
  let c1_i32 : BitVec 32 := 1#32
  let arg9 : BitVec 32 := Scf.iv c0_i32 c1_i32 k1_t1
  let c8_i32 : BitVec 32 := 8#32
  let v124 : BitVec 32 := Scalar.muli arg9 c8_i32
  let v125 : Index := Scalar.indexCast v124
  let c0_40 : Index := 0#32
  ![v125.toNat, 0]
abbrev stage1_0 : Fin 1 → Memref sig .tc .vmem S4x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1024x4 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x1024 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1024x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S4x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1x1024 .i32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
-- ==== ReferenceIdeal.lean ====
abbrev S1x20000x81 : Shape := ⟨3, ![1, 20000, 81]⟩
abbrev S1x20000x4 : Shape := ⟨3, ![1, 20000, 4]⟩
abbrev S4 : Shape := ⟨1, ![4]⟩
abbrev S20000x81 : Shape := ⟨2, ![20000, 81]⟩
abbrev S20000x4 : Shape := ⟨2, ![20000, 4]⟩
abbrev S20000x80 : Shape := ⟨2, ![20000, 80]⟩
abbrev S_ : Shape := ⟨0, ![]⟩
abbrev S20000 : Shape := ⟨1, ![20000]⟩
abbrev S1000 : Shape := ⟨1, ![1000]⟩
abbrev S1000x1 : Shape := ⟨2, ![1000, 1]⟩
abbrev S1 : Shape := ⟨1, ![1]⟩
abbrev S1x1 : Shape := ⟨2, ![1, 1]⟩
abbrev S1000x4 : Shape := ⟨2, ![1000, 4]⟩
abbrev S1000x2 : Shape := ⟨2, ![1000, 2]⟩
abbrev S1000x1x2 : Shape := ⟨3, ![1000, 1, 2]⟩
abbrev S1x1000x2 : Shape := ⟨3, ![1, 1000, 2]⟩
abbrev S1000x1000x2 : Shape := ⟨3, ![1000, 1000, 2]⟩
abbrev S1000x1000x1 : Shape := ⟨3, ![1000, 1000, 1]⟩
abbrev S1000x1000 : Shape := ⟨2, ![1000, 1000]⟩
abbrev S1x1000 : Shape := ⟨2, ![1, 1000]⟩
abbrev S1x4 : Shape := ⟨2, ![1, 4]⟩

abbrev nBuf : Space → Nat
  | .hbm => 204
  | .vmem => 0
  | .smem => 0
  | _ => 0

abbrev hbmTy0_0 (i : Nat) : BufTy := match i % 128 with
  | 0 => ⟨S1x20000x81, .f32⟩
  | 1 => ⟨S1x20000x4, .f32⟩
  | 2 => ⟨S4, .f32⟩
  | 3 => ⟨S20000x81, .f32⟩
  | 4 => ⟨S20000x4, .f32⟩
  | 5 => ⟨S20000x80, .f32⟩
  | 6 => ⟨S_, .f32⟩
  | 7 => ⟨S20000, .f32⟩
  | 8 => ⟨S20000x80, .i32⟩
  | 9 => ⟨S_, .f32⟩
  | 10 => ⟨S_, .i32⟩
  | 11 => ⟨S20000, .f32⟩
  | 12 => ⟨S20000, .i32⟩
  | 13 => ⟨S1000, .f32⟩
  | 14 => ⟨S1000, .i32⟩
  | 15 => ⟨S_, .i32⟩
  | 16 => ⟨S1000, .i32⟩
  | 17 => ⟨S1000, .i1⟩
  | 18 => ⟨S_, .i32⟩
  | 19 => ⟨S1000, .i32⟩
  | 20 => ⟨S1000, .i32⟩
  | 21 => ⟨S1000, .i32⟩
  | 22 => ⟨S1000x1, .i32⟩
  | 23 => ⟨S1, .i32⟩
  | 24 => ⟨S_, .i32⟩
  | 25 => ⟨S1000x1, .i32⟩
  | 26 => ⟨S1000x1, .i1⟩
  | 27 => ⟨S1x1, .i32⟩
  | 28 => ⟨S1000x1, .i32⟩
  | 29 => ⟨S1000x1, .i1⟩
  | 30 => ⟨S1000x1, .i1⟩
  | 31 => ⟨S_, .i1⟩
  | 32 => ⟨S1000, .i1⟩
  | 33 => ⟨S1000x4, .f32⟩
  | 34 => ⟨S1000x4, .i1⟩
  | 35 => ⟨S_, .f32⟩
  | 36 => ⟨S1000x4, .f32⟩
  | 37 => ⟨S1000x4, .f32⟩
  | 38 => ⟨S_, .i32⟩
  | 39 => ⟨S1000, .i32⟩
  | 40 => ⟨S1000, .i1⟩
  | 41 => ⟨S_, .i32⟩
  | 42 => ⟨S1000, .i32⟩
  | 43 => ⟨S1000, .i32⟩
  | 44 => ⟨S1000, .i32⟩
  | 45 => ⟨S1000x1, .i32⟩
  | 46 => ⟨S1, .i32⟩
  | 47 => ⟨S_, .i32⟩
  | 48 => ⟨S1000x1, .i32⟩
  | 49 => ⟨S1000x1, .i1⟩
  | 50 => ⟨S1x1, .i32⟩
  | 51 => ⟨S1000x1, .i32⟩
  | 52 => ⟨S1000x1, .i1⟩
  | 53 => ⟨S1000x1, .i1⟩
  | 54 => ⟨S_, .i1⟩
  | 55 => ⟨S1000, .i1⟩
  | 56 => ⟨S1000, .i32⟩
  | 57 => ⟨S_, .i32⟩
  | 58 => ⟨S1000, .i32⟩
  | 59 => ⟨S1000, .i32⟩
  | 60 => ⟨S_, .f32⟩
  | 61 => ⟨S1000, .f32⟩
  | 62 => ⟨S1000, .i1⟩
  | 63 => ⟨S_, .f32⟩
  | 64 => ⟨S_, .f32⟩
  | 65 => ⟨S1000, .f32⟩
  | 66 => ⟨S_, .f32⟩
  | 67 => ⟨S_, .f32⟩
  | 68 => ⟨S1000, .f32⟩
  | 69 => ⟨S1000, .f32⟩
  | 70 => ⟨S1000x1, .f32⟩
  | 71 => ⟨S1000x4, .f32⟩
  | 72 => ⟨S1000x4, .f32⟩
  | 73 => ⟨S1000x2, .f32⟩
  | 74 => ⟨S1000x1x2, .f32⟩
  | 75 => ⟨S1000x2, .f32⟩
  | 76 => ⟨S1x1000x2, .f32⟩
  | 77 => ⟨S1000x1000x2, .f32⟩
  | 78 => ⟨S1000x1000x2, .f32⟩
  | 79 => ⟨S1000x1000x2, .f32⟩
  | 80 => ⟨S1000x2, .f32⟩
  | 81 => ⟨S1000x1x2, .f32⟩
  | 82 => ⟨S1000x2, .f32⟩
  | 83 => ⟨S1x1000x2, .f32⟩
  | 84 => ⟨S1000x1000x2, .f32⟩
  | 85 => ⟨S1000x1000x2, .f32⟩
  | 86 => ⟨S1000x1000x2, .f32⟩
  | 87 => ⟨S1000x1000x2, .f32⟩
  | 88 => ⟨S_, .f32⟩
  | 89 => ⟨S1000x1000x2, .f32⟩
  | 90 => ⟨S1000x1000x2, .f32⟩
  | 91 => ⟨S1000x1000x1, .f32⟩
  | 92 => ⟨S1000x1000, .f32⟩
  | 93 => ⟨S1000x1000x1, .f32⟩
  | 94 => ⟨S1000x1000, .f32⟩
  | 95 => ⟨S1000x1000, .f32⟩
  | 96 => ⟨S1000x1, .f32⟩
  | 97 => ⟨S1000, .f32⟩
  | 98 => ⟨S1000x1, .f32⟩
  | 99 => ⟨S1000, .f32⟩
  | 100 => ⟨S1000, .f32⟩
  | 101 => ⟨S_, .f32⟩
  | 102 => ⟨S1000, .f32⟩
  | 103 => ⟨S1000, .f32⟩
  | 104 => ⟨S1000x1, .f32⟩
  | 105 => ⟨S1000, .f32⟩
  | 106 => ⟨S1000x1, .f32⟩
  | 107 => ⟨S1000, .f32⟩
  | 108 => ⟨S1000, .f32⟩
  | 109 => ⟨S_, .f32⟩
  | 110 => ⟨S1000, .f32⟩
  | 111 => ⟨S1000, .f32⟩
  | 112 => ⟨S1000, .f32⟩
  | 113 => ⟨S1000x1, .f32⟩
  | 114 => ⟨S1000, .f32⟩
  | 115 => ⟨S1000x1, .f32⟩
  | 116 => ⟨S1000, .f32⟩
  | 117 => ⟨S1000, .f32⟩
  | 118 => ⟨S_, .f32⟩
  | 119 => ⟨S1000, .f32⟩
  | 120 => ⟨S1000, .f32⟩
  | 121 => ⟨S1000x1, .f32⟩
  | 122 => ⟨S1000, .f32⟩
  | 123 => ⟨S1000x1, .f32⟩
  | 124 => ⟨S1000, .f32⟩
  | 125 => ⟨S1000, .f32⟩
  | 126 => ⟨S_, .f32⟩
  | 127 => ⟨S1000, .f32⟩
  | _ => ⟨S1x20000x81, .f32⟩

abbrev hbmTy0_1 (i : Nat) : BufTy := match i % 128 with
  | 0 => ⟨S1000, .f32⟩
  | 1 => ⟨S1000, .f32⟩
  | 2 => ⟨S1000x1, .f32⟩
  | 3 => ⟨S1x1000, .f32⟩
  | 4 => ⟨S1000x1000, .f32⟩
  | 5 => ⟨S1000x1000, .f32⟩
  | 6 => ⟨S1000x1000, .f32⟩
  | 7 => ⟨S1000x1000, .f32⟩
  | 8 => ⟨S_, .f32⟩
  | 9 => ⟨S1000x1000, .f32⟩
  | 10 => ⟨S1000x1000, .f32⟩
  | 11 => ⟨S1000x1000, .f32⟩
  | 12 => ⟨S1000, .i32⟩
  | 13 => ⟨S_, .i32⟩
  | 14 => ⟨S_, .i32⟩
  | 15 => ⟨S1000x1000, .f32⟩
  | 16 => ⟨S1000, .i32⟩
  | 17 => ⟨S_, .i32⟩
  | 18 => ⟨S_, .i32⟩
  | 19 => ⟨S1000, .i1⟩
  | 20 => ⟨S_, .i32⟩
  | 21 => ⟨S_, .i1⟩
  | 22 => ⟨S_, .i32⟩
  | 23 => ⟨S_, .i32⟩
  | 24 => ⟨S_, .i32⟩
  | 25 => ⟨S_, .i32⟩
  | 26 => ⟨S_, .i1⟩
  | 27 => ⟨S_, .i32⟩
  | 28 => ⟨S_, .i32⟩
  | 29 => ⟨S_, .i32⟩
  | 30 => ⟨S_, .i32⟩
  | 31 => ⟨S_, .i32⟩
  | 32 => ⟨S_, .i1⟩
  | 33 => ⟨S_, .i32⟩
  | 34 => ⟨S_, .i32⟩
  | 35 => ⟨S_, .i32⟩
  | 36 => ⟨S_, .i32⟩
  | 37 => ⟨S_, .i32⟩
  | 38 => ⟨S1x1000, .f32⟩
  | 39 => ⟨S1000, .f32⟩
  | 40 => ⟨S_, .f32⟩
  | 41 => ⟨S1000, .f32⟩
  | 42 => ⟨S1000, .i1⟩
  | 43 => ⟨S_, .i32⟩
  | 44 => ⟨S_, .i1⟩
  | 45 => ⟨S_, .i32⟩
  | 46 => ⟨S_, .i32⟩
  | 47 => ⟨S_, .i32⟩
  | 48 => ⟨S_, .i32⟩
  | 49 => ⟨S1, .i1⟩
  | 50 => ⟨S_, .i1⟩
  | 51 => ⟨S1000, .i1⟩
  | 52 => ⟨S1000, .i1⟩
  | 53 => ⟨S_, .i32⟩
  | 54 => ⟨S1000, .i32⟩
  | 55 => ⟨S1000, .i1⟩
  | 56 => ⟨S1000, .i1⟩
  | 57 => ⟨S1000, .i1⟩
  | 58 => ⟨S1000, .i1⟩
  | 59 => ⟨S_, .i32⟩
  | 60 => ⟨S_, .i32⟩
  | 61 => ⟨S1000, .f32⟩
  | 62 => ⟨S1000x1, .f32⟩
  | 63 => ⟨S1000x4, .f32⟩
  | 64 => ⟨S1000x4, .f32⟩
  | 65 => ⟨S1x4, .f32⟩
  | 66 => ⟨S1000x4, .f32⟩
  | 67 => ⟨S1000x4, .f32⟩
  | 68 => ⟨S_, .i32⟩
  | 69 => ⟨S1000, .i32⟩
  | 70 => ⟨S1000, .i32⟩
  | 71 => ⟨S_, .i32⟩
  | 72 => ⟨S_, .i32⟩
  | 73 => ⟨S1000, .i32⟩
  | 74 => ⟨S1000, .i32⟩
  | 75 => ⟨S1000, .f32⟩
  | _ => ⟨S1x20000x81, .f32⟩

abbrev hbmTy (i : Nat) : BufTy := match i / 128 with
  | 0 => hbmTy0_0 i
  | 1 => hbmTy0_1 i
  | _ => ⟨S1x20000x81, .f32⟩

abbrev bufTy : (tb : Table) → Fin (tcTables nBuf tb) → BufTy
  | .hbm, ⟨i, _⟩ => hbmTy i
  | _, _ => ⟨S1x20000x81, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_call0_v0 : Ref sig .tc := ⟨.hbm, 8, rfl⟩
abbrev main_call0_cst : Ref sig .tc := ⟨.hbm, 9, rfl⟩
abbrev main_call0_c : Ref sig .tc := ⟨.hbm, 10, rfl⟩
abbrev main_call0_v1_0 : Ref sig .tc := ⟨.hbm, 11, rfl⟩
abbrev main_v4 : Ref sig .tc := ⟨.hbm, 12, rfl⟩
abbrev main_values : Ref sig .tc := ⟨.hbm, 13, rfl⟩
abbrev main_indices : Ref sig .tc := ⟨.hbm, 14, rfl⟩
abbrev main_call1_c : Ref sig .tc := ⟨.hbm, 15, rfl⟩
abbrev main_call1_v0 : Ref sig .tc := ⟨.hbm, 16, rfl⟩
abbrev main_call1_v1 : Ref sig .tc := ⟨.hbm, 17, rfl⟩
abbrev main_call1_c_0 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_call1_v5 : Ref sig .tc := ⟨.hbm, 22, rfl⟩
abbrev main_call1_c_1 : Ref sig .tc := ⟨.hbm, 23, rfl⟩
abbrev main_call1_c_2 : Ref sig .tc := ⟨.hbm, 24, rfl⟩
abbrev main_call1_v6 : Ref sig .tc := ⟨.hbm, 25, rfl⟩
abbrev main_call1_v7 : Ref sig .tc := ⟨.hbm, 26, rfl⟩
abbrev main_call1_v8 : Ref sig .tc := ⟨.hbm, 27, rfl⟩
abbrev main_call1_v9 : Ref sig .tc := ⟨.hbm, 28, rfl⟩
abbrev main_call1_v10 : Ref sig .tc := ⟨.hbm, 29, rfl⟩
abbrev main_call1_v11 : Ref sig .tc := ⟨.hbm, 30, rfl⟩
abbrev main_call1_c_3 : Ref sig .tc := ⟨.hbm, 31, rfl⟩
abbrev main_call1_v12 : Ref sig .tc := ⟨.hbm, 32, rfl⟩
abbrev main_call1_v13 : Ref sig .tc := ⟨.hbm, 33, rfl⟩
abbrev main_call1_v14 : Ref sig .tc := ⟨.hbm, 34, rfl⟩
abbrev main_call1_cst : Ref sig .tc := ⟨.hbm, 35, rfl⟩
abbrev main_call1_v15 : Ref sig .tc := ⟨.hbm, 36, rfl⟩
abbrev main_v5 : Ref sig .tc := ⟨.hbm, 37, rfl⟩
abbrev main_call2_c : Ref sig .tc := ⟨.hbm, 38, rfl⟩
abbrev main_call2_v0 : Ref sig .tc := ⟨.hbm, 39, rfl⟩
abbrev main_call2_v1 : Ref sig .tc := ⟨.hbm, 40, rfl⟩
abbrev main_call2_c_0 : Ref sig .tc := ⟨.hbm, 41, rfl⟩
abbrev main_call2_v2 : Ref sig .tc := ⟨.hbm, 42, rfl⟩
abbrev main_call2_v3 : Ref sig .tc := ⟨.hbm, 43, rfl⟩
abbrev main_call2_v4 : Ref sig .tc := ⟨.hbm, 44, rfl⟩
abbrev main_call2_v5 : Ref sig .tc := ⟨.hbm, 45, rfl⟩
abbrev main_call2_c_1 : Ref sig .tc := ⟨.hbm, 46, rfl⟩
abbrev main_call2_c_2 : Ref sig .tc := ⟨.hbm, 47, rfl⟩
abbrev main_call2_v6 : Ref sig .tc := ⟨.hbm, 48, rfl⟩
abbrev main_call2_v7 : Ref sig .tc := ⟨.hbm, 49, rfl⟩
abbrev main_call2_v8 : Ref sig .tc := ⟨.hbm, 50, rfl⟩
abbrev main_call2_v9 : Ref sig .tc := ⟨.hbm, 51, rfl⟩
abbrev main_call2_v10 : Ref sig .tc := ⟨.hbm, 52, rfl⟩
abbrev main_call2_v11 : Ref sig .tc := ⟨.hbm, 53, rfl⟩
abbrev main_call2_c_3 : Ref sig .tc := ⟨.hbm, 54, rfl⟩
abbrev main_call2_v12 : Ref sig .tc := ⟨.hbm, 55, rfl⟩
abbrev main_call2_v13 : Ref sig .tc := ⟨.hbm, 56, rfl⟩
abbrev main_call2_c_4 : Ref sig .tc := ⟨.hbm, 57, rfl⟩
abbrev main_call2_v14 : Ref sig .tc := ⟨.hbm, 58, rfl⟩
abbrev main_v6 : Ref sig .tc := ⟨.hbm, 59, rfl⟩
abbrev main_cst_1 : Ref sig .tc := ⟨.hbm, 60, rfl⟩
abbrev main_v7 : Ref sig .tc := ⟨.hbm, 61, rfl⟩
abbrev main_v8 : Ref sig .tc := ⟨.hbm, 62, rfl⟩
abbrev main_cst_2 : Ref sig .tc := ⟨.hbm, 63, rfl⟩
abbrev main_v9 : Ref sig .tc := ⟨.hbm, 64, rfl⟩
abbrev main_v10 : Ref sig .tc := ⟨.hbm, 65, rfl⟩
abbrev main_cst_3 : Ref sig .tc := ⟨.hbm, 66, rfl⟩
abbrev main_v11 : Ref sig .tc := ⟨.hbm, 67, rfl⟩
abbrev main_v12 : Ref sig .tc := ⟨.hbm, 68, rfl⟩
abbrev main_v13 : Ref sig .tc := ⟨.hbm, 69, rfl⟩
abbrev main_v14 : Ref sig .tc := ⟨.hbm, 70, rfl⟩
abbrev main_v15 : Ref sig .tc := ⟨.hbm, 71, rfl⟩
abbrev main_v16 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev main_v22 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_cst_4 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_cst_5 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_cst_6 : Ref sig .tc := ⟨.hbm, 109, rfl⟩
abbrev main_v51 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_v58 : Ref sig .tc := ⟨.hbm, 117, rfl⟩
abbrev main_cst_7 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_cst_8 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_cst_9 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_c : Ref sig .tc := ⟨.hbm, 141, rfl⟩
abbrev main_c_10 : Ref sig .tc := ⟨.hbm, 142, rfl⟩
abbrev main_v79_0 : Ref sig .tc := ⟨.hbm, 143, rfl⟩
abbrev main_v79_1 : Ref sig .tc := ⟨.hbm, 144, rfl⟩
abbrev main_v79_2 : Ref sig .tc := ⟨.hbm, 145, rfl⟩
abbrev main_v79_3 : Ref sig .tc := ⟨.hbm, 146, rfl⟩
abbrev main_v79_4 : Ref sig .tc := ⟨.hbm, 147, rfl⟩
abbrev main_while0c_c_17 : Ref sig .tc := ⟨.hbm, 148, rfl⟩
abbrev main_while0c_v91 : Ref sig .tc := ⟨.hbm, 149, rfl⟩
abbrev main_while0b_c_17 : Ref sig .tc := ⟨.hbm, 150, rfl⟩
abbrev main_while0b_v91 : Ref sig .tc := ⟨.hbm, 151, rfl⟩
abbrev main_while0b_v92 : Ref sig .tc := ⟨.hbm, 152, rfl⟩
abbrev main_while0b_c_18 : Ref sig .tc := ⟨.hbm, 153, rfl⟩
abbrev main_while0b_v93 : Ref sig .tc := ⟨.hbm, 154, rfl⟩
abbrev main_while0b_c_19 : Ref sig .tc := ⟨.hbm, 155, rfl⟩
abbrev main_while0b_v94 : Ref sig .tc := ⟨.hbm, 156, rfl⟩
abbrev main_while0b_v95 : Ref sig .tc := ⟨.hbm, 157, rfl⟩
abbrev main_while0b_c_20 : Ref sig .tc := ⟨.hbm, 158, rfl⟩
abbrev main_while0b_c_21 : Ref sig .tc := ⟨.hbm, 159, rfl⟩
abbrev main_while0b_v96 : Ref sig .tc := ⟨.hbm, 160, rfl⟩
abbrev main_while0b_c_22 : Ref sig .tc := ⟨.hbm, 161, rfl⟩
abbrev main_while0b_c_23 : Ref sig .tc := ⟨.hbm, 162, rfl⟩
abbrev main_while0b_v97 : Ref sig .tc := ⟨.hbm, 163, rfl⟩
abbrev main_while0b_c_24 : Ref sig .tc := ⟨.hbm, 164, rfl⟩
abbrev main_while0b_v98 : Ref sig .tc := ⟨.hbm, 165, rfl⟩
abbrev main_while0b_v99 : Ref sig .tc := ⟨.hbm, 166, rfl⟩
abbrev main_while0b_v100 : Ref sig .tc := ⟨.hbm, 167, rfl⟩
abbrev main_while0b_cst_25 : Ref sig .tc := ⟨.hbm, 168, rfl⟩
abbrev main_while0b_v101 : Ref sig .tc := ⟨.hbm, 169, rfl⟩
abbrev main_while0b_v102 : Ref sig .tc := ⟨.hbm, 170, rfl⟩
abbrev main_while0b_c_26 : Ref sig .tc := ⟨.hbm, 171, rfl⟩
abbrev main_while0b_v103 : Ref sig .tc := ⟨.hbm, 172, rfl⟩
abbrev main_while0b_v104 : Ref sig .tc := ⟨.hbm, 173, rfl⟩
abbrev main_while0b_c_27 : Ref sig .tc := ⟨.hbm, 174, rfl⟩
abbrev main_while0b_v105 : Ref sig .tc := ⟨.hbm, 175, rfl⟩
abbrev main_while0b_v106 : Ref sig .tc := ⟨.hbm, 176, rfl⟩
abbrev main_while0b_v107 : Ref sig .tc := ⟨.hbm, 177, rfl⟩
abbrev main_while0b_v108 : Ref sig .tc := ⟨.hbm, 178, rfl⟩
abbrev main_while0b_v109 : Ref sig .tc := ⟨.hbm, 179, rfl⟩
abbrev main_while0b_v110 : Ref sig .tc := ⟨.hbm, 180, rfl⟩
abbrev main_while0b_v111 : Ref sig .tc := ⟨.hbm, 181, rfl⟩
abbrev main_while0b_v112 : Ref sig .tc := ⟨.hbm, 182, rfl⟩
abbrev main_while0b_v113 : Ref sig .tc := ⟨.hbm, 183, rfl⟩
abbrev main_while0b_v114 : Ref sig .tc := ⟨.hbm, 184, rfl⟩
abbrev main_while0b_v115 : Ref sig .tc := ⟨.hbm, 185, rfl⟩
abbrev main_while0b_v116 : Ref sig .tc := ⟨.hbm, 186, rfl⟩
abbrev main_while0b_c_28 : Ref sig .tc := ⟨.hbm, 187, rfl⟩
abbrev main_while0b_v117 : Ref sig .tc := ⟨.hbm, 188, rfl⟩
abbrev main_v80 : Ref sig .tc := ⟨.hbm, 189, rfl⟩
abbrev main_v81 : Ref sig .tc := ⟨.hbm, 190, rfl⟩
abbrev main_v82 : Ref sig .tc := ⟨.hbm, 191, rfl⟩
abbrev main_v83 : Ref sig .tc := ⟨.hbm, 192, rfl⟩
abbrev main_v84 : Ref sig .tc := ⟨.hbm, 193, rfl⟩
abbrev main_v85 : Ref sig .tc := ⟨.hbm, 194, rfl⟩
abbrev main_v86 : Ref sig .tc := ⟨.hbm, 195, rfl⟩
abbrev main_c_11 : Ref sig .tc := ⟨.hbm, 196, rfl⟩
abbrev main_v87 : Ref sig .tc := ⟨.hbm, 197, rfl⟩
abbrev main_v88 : Ref sig .tc := ⟨.hbm, 198, rfl⟩
abbrev main_c_12 : Ref sig .tc := ⟨.hbm, 199, rfl⟩
abbrev main_call3_v0 : Ref sig .tc := ⟨.hbm, 200, rfl⟩
abbrev main_call3_v1 : Ref sig .tc := ⟨.hbm, 201, rfl⟩
abbrev main_v89 : Ref sig .tc := ⟨.hbm, 202, rfl⟩
abbrev main_v90 : Ref sig .tc := ⟨.hbm, 203, rfl⟩

abbrev nD : Nat := 1
abbrev τ : Topo := Topo.v7x

variable {F : FTy → Type} [FloatOps F]

abbrev main_while0_count : Scf.Loop 32 := ⟨0#32, 1000#32, 1#32⟩
-- ==== Proof.Nms.KRun.lean ====
/- The kernel program's run: the arguments end unchanged and the three results hold what the last boundary's contents say. -/
module

public import proofs.«01_k».proof.Proof.Gen.KernelIdeal.Frame

@[expose] public section

set_option maxRecDepth 16384

noncomputable section

namespace Cert.KernelIdeal.Nms

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over the generated segments, its postcondition read at the results and at the arguments. -/
theorem run : θ_run (defs (F := F)) (onTc (τ := τ) (main (F := F))) ⟨m, fun _ => 0, ρ⟩ (fun r => ∀ c : Dev nD,
      r.2.mem ((c.tc : Thread nD τ).loc main_v18) = W14 m ρ c (Proc.devRef .tc main_v18)
      ∧ r.2.mem ((c.tc : Thread nD τ).loc main_v20) = W14 m ρ c (Proc.devRef .tc main_v20)
      ∧ r.2.mem ((c.tc : Thread nD τ).loc main_v22) = W14 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h hz c =>
      ⟨h c _ (mem_uc main_v18 (by decide)), h c _ (mem_uc main_v20 (by decide)), h c _ (mem_uc main_v22 (by decide)),
       (h c _ (mem_uc main_arg0 (by decide))).trans (W14_main_arg0 m ρ c),
       (h c _ (mem_uc main_arg1 (by decide))).trans (W14_main_arg1 m ρ c)⟩)

end Cert.KernelIdeal.Nms

end
-- ==== Proof.Nms.RefRun.lean ====
/- The reference's run. What the generated fold says of the whole program, read at the arguments (unchanged) and at the
   buffers that the loop does not write (as the operations before the loop leave them). -/
module

public import proofs.«01_k».proof.Proof.Gen.ReferenceIdeal.Run
public import Idealize.ShloMosaic.Init

@[expose] public section

set_option maxRecDepth 16384

noncomputable section

namespace Cert.ReferenceIdeal.Nms

open Idealize.ShloMosaic Idealize.ShloMosaic.TcCoe Idealize.ShloMosaic.StableHlo
open Idealize.SL.Sem
open Cert.ReferenceIdeal.Gen Cert.ReferenceIdeal.Value

variable {F : FTy → Type} [FloatOps F]

variable (m : (ℓ : Loc nD τ sig) → Buf (Elt F) ℓ) (ρ : Dev nD → PrngReg)

/-- A buffer that neither the loop's condition nor its body writes is, at every trip, as the loop found it. -/
theorem atK_keep (c : Dev nD) (r : Ref sig .tc) (hc : r ∉ condOps_W) (hb : r ∉ while0Ops0_W) :
    ∀ k, atK m k c (Proc.devRef .tc r) = entryContents preI m c (Proc.devRef .tc r)
  | 0 => rfl
  | k + 1 => by
    rw [show atK m (k + 1) c = after while0Ops0 (after condOps (atK m k c)) from rfl,
      after_of_writes_sub while0Ops0 _ while0Ops0_writes hb, after_of_writes_sub condOps _ condOps_writes hc,
      atK_keep c r hc hb k]

/-- What the condition's last run leaves at a buffer it does not write. -/
theorem loop_exit (c : Dev nD) (r : Ref sig .tc) (hc : r ∉ condOps_W) :
    after condOps (atK m 1000 c) (Proc.devRef .tc r) = atK m 1000 c (Proc.devRef .tc r) :=
  after_of_writes_sub condOps _ condOps_writes hc

/-- A buffer that no operation of the whole program writes ends as launched. -/
theorem final_keep (c : Dev nD) (r : Ref sig .tc) (h0 : r ∉ hostOps0_W) (h1 : r ∉ hostOps0_1_W) (h2 : r ∉ hostOps0_2_W)
    (h3 : r ∉ hostOps0_3_W) (h4 : r ∉ hostOps0_4_W) (h5 : r ∉ hostOps0_5_W) (hc : r ∉ condOps_W) (hb : r ∉ while0Ops0_W)
    (h6 : ∀ V : Valuation τ sig (Elt F), afterL postI V (Proc.devRef .tc r) = V (Proc.devRef .tc r)) :
    finalContents condOps preI bodyI postI 1000 m c (Proc.devRef .tc r) = m ((c.tc : Thread nD τ).loc r) := by
  show afterL postI (after condOps (atK m 1000 c)) (Proc.devRef .tc r) = _
  rw [h6, loop_exit m c r hc, atK_keep m c r hc hb]
  show after hostOps0_5 (after hostOps0_4 (after hostOps0_3 (after hostOps0_2 (after hostOps0_1 (after hostOps0 (launchContents m c))))))
    (Proc.devRef .tc r) = _
  rw [after_of_writes_sub _ _ hostOps0_5_writes h5, after_of_writes_sub _ _ hostOps0_4_writes h4,
    after_of_writes_sub _ _ hostOps0_3_writes h3, after_of_writes_sub _ _ hostOps0_2_writes h2,
    after_of_writes_sub _ _ hostOps0_1_writes h1, after_of_writes_sub _ _ hostOps0_writes h0]

theorem final_main_arg0 (c : Dev nD) : finalContents condOps preI bodyI postI 1000 m c (Proc.devRef .tc main_arg0)
    = m ((c.tc : Thread nD τ).loc main_arg0) :=
  final_keep m c main_arg0 (by decide +kernel) (by decide +kernel) (by decide +kernel) (by decide +kernel) (by decide +kernel)
    (by decide +kernel) (by decide +kernel) (by decide +kernel) (fun V => by simp only [afterL_cons, afterL_nil]; after_results)

theorem final_main_arg1 (c : Dev nD) : finalContents condOps preI bodyI postI 1000 m c (Proc.devRef .tc main_arg1)
    = m ((c.tc : Thread nD τ).loc main_arg1) :=
  final_keep m c main_arg1 (by decide +kernel) (by decide +kernel) (by decide +kernel) (by decide +kernel) (by decide +kernel)
    (by decide +kernel) (by decide +kernel) (by decide +kernel) (fun V => by simp only [afterL_cons, afterL_nil]; after_results)

/-- The reference's run: the arguments end unchanged and the three results at the fold. -/
theorem run : θ_run (defs (F := F)) (onTc (τ := τ) (main (F := F))) ⟨m, fun _ => 0, ρ⟩ (fun r => ∀ c : Dev nD,
      r.2.mem ((c.tc : Thread nD τ).loc main_v86) = finalContents condOps preI bodyI postI 1000 m c (Proc.devRef .tc main_v86)
      ∧ r.2.mem ((c.tc : Thread nD τ).loc main_v89) = finalContents condOps preI bodyI postI 1000 m c (Proc.devRef .tc main_v89)
      ∧ r.2.mem ((c.tc : Thread nD τ).loc main_v90) = finalContents condOps preI bodyI postI 1000 m c (Proc.devRef .tc main_v90)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨h c main_v86 (by decide), h c main_v89 (by decide), h c main_v90 (by decide),
    (h c main_arg0 (by decide)).trans (final_main_arg0 m c), (h c main_arg1 (by decide)).trans (final_main_arg1 m c)⟩)
    (run_fold m ρ)

/-- The reference's frame: it declares no semaphore, so every counter is zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2.2.2, Idealize.ShloMosaic.sem_eq_zero_of_no_sems (by decide) r.2⟩) (run m ρ)

end Cert.ReferenceIdeal.Nms

end
-- ==== Proof.Nms.Region0Out.lean ====
/- The class-maximum region's two output arrays after its run, over the array it was entered with. -/
module

public import proofs.«01_k».proof.Proof.Gen.KernelIdeal.Frame
public import Idealize.ShloMosaic.Lib.Pipeline.ValueKit
public import Idealize.ShloMosaic.Lib.VecWindow

@[expose] public section

set_option maxRecDepth 16384

noncomputable section

namespace Cert.KernelIdeal.Nms

open Idealize.ShloMosaic Idealize.ShloMosaic.TcCoe
open Cert.KernelIdeal Cert.KernelIdeal.Gen

variable (V : (c : Dev nD) → (b : Ref sig .tc) → Buf (Elt Ideal) ((c : Thread nD τ).loc b)) (c : Dev nD)

theorem blk0_0 (t : Fin cfg0.N) : iblk0 (F := Ideal) V c 0 t = V c main_v2 := by
  funext y
  unfold iblk0
  refine congrArg (V c main_v2) (funext fun a => Fin.ext ?_)
  have h0 : ∀ t : Fin cfg0.N, win0_0.index t 0 = 0 := by decide +kernel
  have h1 : ∀ t : Fin cfg0.N, win0_0.index t 1 = 0 := by decide +kernel
  fin_cases a
  · blk_simp; rw [h0]; all_goals rw [Nat.zero_mul, Nat.zero_add]
  · blk_simp; rw [h1]; all_goals rw [Nat.zero_mul, Nat.zero_add]

/-- A store over the whole buffer leaves the stored value, and a load of the whole buffer reads its contents. -/
theorem out0_1_eq (x : FVec Ideal S81x20000 .f32) : out0_1 (F := Ideal) x = k0_pay2 (F := Ideal) x := by
  unfold out0_1
  exact (View.canon_cons_unit_lit _ _ [] (by decide)).trans (congrArg (k0_pay2 (F := Ideal)) (View.ld_unit_lit _ _ (by decide)))

theorem out0_2_eq (x : FVec Ideal S81x20000 .f32) : out0_2 (F := Ideal) x = k0_pay3 (F := Ideal) x := by
  unfold out0_2
  exact (View.canon_cons_unit_lit _ _ [] (by decide)).trans (congrArg (k0_pay3 (F := Ideal)) (View.ld_unit_lit _ _ (by decide)))

theorem arr0_1_of (G : FVec Ideal S1x20000 .f32) (hG : ∀ t, (dat0 (F := Ideal) V c).after 1 t = G) : (dat0 (F := Ideal) V c).arrAt 1 cfg0.N = G := by
  refine (dat0 (F := Ideal) V c).arrAt_eq_of_covers 1 _ (by decide +kernel) fun t hf y => ?_
  blk_simp
  rw [hG]
  refine congrArg G (funext fun a => Fin.ext ?_)
  have h0 : ∀ t : Fin cfg0.N, win0_1.index t 0 = 0 := by decide +kernel
  have h1 : ∀ t : Fin cfg0.N, win0_1.index t 1 = 0 := by decide +kernel
  fin_cases a
  · blk_simp; rw [h0]; all_goals rw [Nat.zero_mul, Nat.zero_add]
  · blk_simp; rw [h1]; all_goals rw [Nat.zero_mul, Nat.zero_add]

/-- The first output array: every column's maximum over the masked rows. -/
theorem arr0_1 : (dat0 (F := Ideal) V c).arrAt 1 cfg0.N = k0_pay2 (F := Ideal) (V c main_v2) :=
  arr0_1_of V c _ fun t => (after0_1 V c t).trans ((out0_1_eq _).trans (congrArg (k0_pay2 (F := Ideal)) (blk0_0 V c t)))

theorem arr0_2_of (G : IVec S1x20000 32) (hG : ∀ t, (dat0 (F := Ideal) V c).after 2 t = G) : (dat0 (F := Ideal) V c).arrAt 2 cfg0.N = G := by
  refine (dat0 (F := Ideal) V c).arrAt_eq_of_covers 2 _ (by decide +kernel) fun t hf y => ?_
  blk_simp
  rw [hG]
  refine congrArg G (funext fun a => Fin.ext ?_)
  have h0 : ∀ t : Fin cfg0.N, win0_2.index t 0 = 0 := by decide +kernel
  have h1 : ∀ t : Fin cfg0.N, win0_2.index t 1 = 0 := by decide +kernel
  fin_cases a
  · blk_simp; rw [h0]; all_goals rw [Nat.zero_mul, Nat.zero_add]
  · blk_simp; rw [h1]; all_goals rw [Nat.zero_mul, Nat.zero_add]

/-- The second output array: every column's first row attaining the maximum, minus one. -/
theorem arr0_2 : (dat0 (F := Ideal) V c).arrAt 2 cfg0.N = k0_pay3 (F := Ideal) (V c main_v2) :=
  arr0_2_of V c _ fun t => (after0_2 V c t).trans ((out0_2_eq _).trans (congrArg (k0_pay3 (F := Ideal)) (blk0_0 V c t)))

end Cert.KernelIdeal.Nms

end
-- ==== Proof.Nms.Spec.lean ====
/- Greedy suppression on an abstract overlap relation. `keep n j` says that box `j` is still kept after the first `n` boxes
   have each had their turn to suppress the later boxes they overlap. The block form reads eight turns (any number) at once
   off the state before them. -/
module

public import Idealize.ShloMosaic.Lib.Pointwise

@[expose] public section

noncomputable section

namespace Cert.Nms

open Classical Idealize.ShloMosaic

/-- Box `j` is kept after the turns of boxes `0 … n - 1`. -/
def keep (valid : ℕ → Prop) (ov : ℕ → ℕ → Prop) : ℕ → ℕ → Prop
  | 0, j => valid j
  | n + 1, j => keep valid ov n j ∧ ¬ (ov n j ∧ keep valid ov n n ∧ n < j)

variable (valid : ℕ → Prop) (ov : ℕ → ℕ → Prop)

/-- The state after `r` more turns, in terms of the state before them and the suppressing boxes' own fates. -/
theorem keep_add (n j : ℕ) : ∀ r, keep valid ov (n + r) j ↔ keep valid ov n j ∧
    ∀ t < r, ¬ (ov (n + t) j ∧ keep valid ov (n + t) (n + t) ∧ n + t < j)
  | 0 => by simp
  | r + 1 => by
    rw [← Nat.add_assoc]
    show keep valid ov (n + r) j ∧ _ ↔ _
    rw [keep_add n j r]
    constructor
    · rintro ⟨⟨h, h1⟩, h2⟩
      refine ⟨h, fun t ht => ?_⟩
      rcases Nat.lt_succ_iff_lt_or_eq.mp ht with h' | rfl
      · exact h1 t h'
      · exact h2
    · rintro ⟨h, h1⟩
      exact ⟨⟨h, fun t ht => h1 t (by omega)⟩, h1 r (by omega)⟩

/-- The fate of the block's own member `r`: kept before the block and not suppressed by an earlier member. -/
theorem keep_block (n r : ℕ) : keep valid ov (n + r) (n + r) ↔ keep valid ov n (n + r) ∧
    ∀ t < r, ¬ (keep valid ov (n + t) (n + t) ∧ ov (n + t) (n + r)) := by
  rw [keep_add]
  refine and_congr_right fun _ => forall_congr' fun t => imp_congr_right fun ht => not_congr ?_
  constructor
  · rintro ⟨a, b, _⟩; exact ⟨b, a⟩
  · rintro ⟨a, b⟩; exact ⟨b, a, by omega⟩

/-- Two runs agree where their masks and relations agree below a bound. -/
theorem keep_congr {valid valid' : ℕ → Prop} {ov ov' : ℕ → ℕ → Prop} {N : ℕ} (hv : ∀ j < N, valid j ↔ valid' j)
    (ho : ∀ i < N, ∀ j < N, ov i j ↔ ov' i j) : ∀ n ≤ N, ∀ j < N, keep valid ov n j ↔ keep valid' ov' n j
  | 0, _, j, hj => hv j hj
  | n + 1, hn, j, hj => by
    show _ ∧ _ ↔ _ ∧ _
    rw [keep_congr hv ho n (by omega) j hj, keep_congr hv ho n (by omega) n (by omega), ho n (by omega) j hj]

/-- The indicator of a proposition, as an extended real. -/
def ind (p : Prop) : EReal := if p then 1 else 0

theorem ind_true {p : Prop} (h : p) : ind p = 1 := if_pos h
theorem ind_false {p : Prop} (h : ¬ p) : ind p = 0 := if_neg h
theorem ind_nonneg (p : Prop) : 0 ≤ ind p := by unfold ind; split <;> simp
theorem ind_le_one (p : Prop) : ind p ≤ 1 := by unfold ind; split <;> simp
theorem ind_congr {p q : Prop} (h : p ↔ q) : ind p = ind q := by rw [propext h]
theorem ind_inj {p q : Prop} : ind p = ind q ↔ (p ↔ q) := by
  unfold ind; split <;> split <;> simp_all
theorem ind_pos {p : Prop} : 0 < ind p ↔ p := by unfold ind; split <;> simp_all

theorem ind_mul (p q : Prop) : ind p * ind q = ind (p ∧ q) := by unfold ind; split_ifs <;> simp_all

theorem one_sub_ind (p : Prop) : (1 : EReal) - ind p = ind (¬ p) := by
  have h0 : (1 : EReal) - 1 = 0 := by
    have : (1 : EReal) - 1 = ((1 - 1 : ℝ) : EReal) := by rw [EReal.coe_sub]; rfl
    simpa using this
  by_cases h : p
  · rw [ind_true h, ind_false (not_not.mpr h), h0]
  · rw [ind_false h, ind_true h, sub_zero]

/-- One factor of the block's recurrence. -/
theorem ind_step (p q s : Prop) : ind p * (1 - ind q * ind s) = ind (p ∧ ¬ (q ∧ s)) := by
  rw [ind_mul, one_sub_ind, ind_mul]

theorem min_ind_one (p : Prop) : min (ind p) 1 = ind p := min_eq_left (ind_le_one p)

/-- A maximum of indicators is the indicator of the disjunction. -/
theorem fold_max_ind {ι : Type} (s : Finset ι) (p : ι → Prop) : (s.fold max ⊥ fun i => ind (p i)) ⊔ 0 = ind (∃ i ∈ s, p i) := by
  induction s using Finset.induction_on with
  | empty => simp [ind]
  | insert a s ha ih =>
    rw [Finset.fold_insert ha]
    show max (max _ _) 0 = _
    rw [max_assoc]
    have : max (s.fold max ⊥ fun i => ind (p i)) 0 = ind (∃ i ∈ s, p i) := ih
    rw [this]
    have : max (ind (p a)) (ind (∃ i ∈ s, p i)) = ind (p a ∨ ∃ i ∈ s, p i) := by
      by_cases h1 : p a
      · rw [ind_true h1, ind_true (Or.inl h1)]; exact max_eq_left (ind_le_one _)
      · rw [ind_false h1, max_eq_right (ind_nonneg _)]; exact ind_congr (by simp [h1])
    rw [this]
    exact ind_congr (by simp)

/-- Over a set with a member the start value drops out. -/
theorem fold_max_ind_of_mem {ι : Type} (s : Finset ι) (p : ι → Prop) {a : ι} (ha : a ∈ s) :
    (s.fold max ⊥ fun i => ind (p i)) = ind (∃ i ∈ s, p i) := by
  rw [← fold_max_ind]
  refine (max_eq_left ?_).symm
  exact (Finset.le_fold_max _).mpr (Or.inr ⟨a, ha, ind_nonneg _⟩)

/-- A maximum of values that are all `0` but one, that one nonnegative. -/
theorem fold_max_single {ι : Type} (s : Finset ι) (f : ι → EReal) {a : ι} (ha : a ∈ s) (h : ∀ i ∈ s, i ≠ a → f i = 0)
    (h0 : 0 ≤ f a) : s.fold max ⊥ f = f a := by
  apply le_antisymm
  · refine (Finset.fold_max_le _).mpr ⟨bot_le, fun i hi => ?_⟩
    by_cases e : i = a
    · rw [e]
    · rw [h i hi e]; exact h0
  · exact (Finset.le_fold_max _).mpr (Or.inr ⟨a, ha, le_rfl⟩)

theorem ofBits_neg_inf : Ideal.ofBits .f32 0xFF800000#32 = ⊥ := by
  rfl

/-- The eight members of a block: from what each was before the block and their overlaps, what each ends as. -/
structure Block (p : ℕ → Prop) (d : ℕ → ℕ → Prop) (x : ℕ → Prop) : Prop where
  step : ∀ c, x c ↔ p c ∧ ∀ t < c, ¬ (x t ∧ d c t)

theorem Block.two {p : ℕ → Prop} {d : ℕ → ℕ → Prop} {x : ℕ → Prop} (h : Block p d x) :
    ind (p 2) * (1 - ind (x 0) * ind (d 2 0)) * (1 - ind (x 1) * ind (d 2 1)) = ind (x 2) := by
  rw [ind_step, ind_step]
  refine ind_congr ?_
  rw [h.step 2]
  simp only [Nat.forall_lt_succ_right, Nat.not_lt_zero, false_imp_iff, implies_true, true_and, and_assoc]

end Cert.Nms

end
-- ==== Proof.Nms.Trip.lean ====
/- One trip of the kernel's suppression loop, read at an index: the eight boxes of the block settle their own fates in
   order, then suppress every later box they overlap. -/
module

public import proofs.«01_k».proof.Proof.Gen.KernelIdeal.Frame
public import proofs.«01_k».proof.Proof.Nms.Spec

@[expose] public section

set_option maxRecDepth 16384

noncomputable section

namespace Cert.KernelIdeal.Nms

open Idealize.ShloMosaic
open Cert.KernelIdeal Cert.KernelIdeal.Gen Cert.Nms

/-- The lane numbers and the block's row numbers. -/
abbrev lanes : IVec S1x1024 32 := kernelRun1_A.sl.v79
abbrev rows : IVec S8x1 32 := kernelRun1_A.sl.v85

/-- The overlap threshold. -/
abbrev thr : EReal := Ideal.ofBits .f32 0x3EE66666#32

theorem trip_lt (k : Fin k1_t1_loop.trips) : k.val < 125 := Nat.lt_of_lt_of_le k.isLt k1_t1_abs.2.1

theorem pay4_at (x : FVec Ideal S8x1024 .f32) (r : Fin 8) (l : Fin 1024) :
    k1_pay4 (F := Ideal) x (ix2 r l) = ind (thr < x (ix2 r l)) := by
  pointwise [k1_pay4]
  unfold ind; congr

theorem pay5_at (k : Fin k1_t1_loop.trips) (l : Fin 1024) :
    k1_pay5 lanes 0#32 1#32 k (ix2 0 l) = BitVec.ofNat 32 l - BitVec.ofNat 32 (8 * k) := by
  pointwise [k1_pay5, lanes, kernelRun1_A.sl.v79]
  have := trip_lt k
  unfold IntOp.subi Scalar.muli Scf.iv
  congr 1
  apply BitVec.eq_of_toNat_eq
  simp [IntOp.muli]
  omega

theorem cmp_eq (k : Fin k1_t1_loop.trips) (l : Fin 1024) (c : ℕ) (hc : c < 8) :
    IntOp.cmpi .eq (k1_pay5 lanes 0#32 1#32 k (ix2 0 l)) (BitVec.ofNat 32 c) = BitVec.ofBool (decide (l.val = 8 * k + c)) := by
  rw [pay5_at]
  have := trip_lt k
  have := l.isLt
  show BitVec.ofBool (decide _) = _
  congr 2
  rw [eq_iff_iff, ← BitVec.toNat_inj]
  simp
  omega

theorem cmp_gt (k : Fin k1_t1_loop.trips) (l : Fin 1024) (c : Fin 8) :
    IntOp.cmpi .sgt (k1_pay5 lanes 0#32 1#32 k (ix2 0 l)) (BitVec.ofNat 32 c) = BitVec.ofBool (decide (8 * k.val + c.val < l.val)) := by
  rw [pay5_at]
  have := trip_lt k
  have := l.isLt
  have := c.isLt
  show BitVec.ofBool ((BitVec.ofNat 32 c).slt (BitVec.ofNat 32 l - BitVec.ofNat 32 (8 * k))) = _
  congr 1
  have e1 : (BitVec.ofNat 32 c.val).toNat = c.val := by simp; omega
  have e2 : (BitVec.ofNat 32 l.val - BitVec.ofNat 32 (8 * k)).toNat = (2 ^ 32 - 8 * k.val + l.val) % 2 ^ 32 := by
    rw [BitVec.toNat_sub, BitVec.toNat_ofNat, BitVec.toNat_ofNat, Nat.mod_eq_of_lt (a := 8 * k.val) (by omega), Nat.mod_eq_of_lt (a := l.val) (by omega)]
  rw [BitVec.slt, BitVec.toInt_eq_toNat_cond, BitVec.toInt_eq_toNat_cond, e1, e2]
  rw [decide_eq_decide]
  split <;> split <;> omega

/-- A masked maximum: the carried value at one lane. -/
theorem masked (k : Fin k1_t1_loop.trips) (c : ℕ) (hc : c < 8) (acc : FVec Ideal S1x1024 .f32) (h0 : 0 ≤ acc (ix2 0 ⟨8 * k + c, by have := trip_lt k; omega⟩)) :
    Finset.fold max (Ideal.ofBits FTy.f32 4286578688#32) (fun x : Fin 1 × Fin 1024 => Scalar.select
      (IntOp.cmpi .eq (k1_pay5 lanes 0#32 1#32 k (ix2 0 x.2)) (BitVec.ofNat 32 c)) (acc (ix2 0 x.2)) 0) Finset.univ
      = acc (ix2 0 ⟨8 * k + c, by have := trip_lt k; omega⟩) := by
  rw [ofBits_neg_inf]
  have hk := trip_lt k
  simp only [cmp_eq _ _ _ hc, WordCmp.select_ofBool, decide_eq_true_eq]
  rw [fold_max_single (a := ((0 : Fin 1), (⟨8 * k + c, by omega⟩ : Fin 1024))) _ _ (Finset.mem_univ _)]
  · simp
  · rintro ⟨i, l⟩ - hi
    rw [if_neg]
    intro e
    exact hi (Prod.ext (Subsingleton.elim _ _) (Fin.ext e))
  · simpa using h0

section Members
variable (k : Fin k1_t1_loop.trips) (acc : FVec Ideal S1x1024 .f32)
  (h0 : ∀ c (hc : c < 8), 0 ≤ acc (ix2 0 ⟨8 * k + c, by have := trip_lt k; omega⟩))
include h0

theorem pay6_at : k1_pay6 (F := Ideal) lanes 0#32 1#32 k acc (ix2 0 0) = acc (ix2 0 ⟨8 * k + 0, by have := trip_lt k; omega⟩) := by
  pointwise [k1_pay6]; exact masked k 0 (by decide) acc (h0 0 (by decide))
theorem pay7_at : k1_pay7 (F := Ideal) lanes 0#32 1#32 k acc (ix2 0 0) = acc (ix2 0 ⟨8 * k + 1, by have := trip_lt k; omega⟩) := by
  pointwise [k1_pay7]; exact masked k 1 (by decide) acc (h0 1 (by decide))
theorem pay8_at : k1_pay8 (F := Ideal) lanes 0#32 1#32 k acc (ix2 0 0) = acc (ix2 0 ⟨8 * k + 2, by have := trip_lt k; omega⟩) := by
  pointwise [k1_pay8]; exact masked k 2 (by decide) acc (h0 2 (by decide))
theorem pay10_at : k1_pay10 (k1_pay9 (F := Ideal) lanes 0#32 1#32 k acc) (ix2 0 0) = acc (ix2 0 ⟨8 * k + 3, by have := trip_lt k; omega⟩) := by
  pointwise [k1_pay9, k1_pay10]; exact masked k 3 (by decide) acc (h0 3 (by decide))
theorem pay11_at : k1_pay11 (F := Ideal) acc (k1_pay5 lanes 0#32 1#32 k) (ix2 0 0) = acc (ix2 0 ⟨8 * k + 4, by have := trip_lt k; omega⟩) := by
  pointwise [k1_pay11]; exact masked k 4 (by decide) acc (h0 4 (by decide))
theorem pay12_at : k1_pay12 (F := Ideal) acc (k1_pay5 lanes 0#32 1#32 k) (ix2 0 0) = acc (ix2 0 ⟨8 * k + 5, by have := trip_lt k; omega⟩) := by
  pointwise [k1_pay12]; exact masked k 5 (by decide) acc (h0 5 (by decide))
theorem pay13_at : k1_pay13 (F := Ideal) acc (k1_pay5 lanes 0#32 1#32 k) (ix2 0 0) = acc (ix2 0 ⟨8 * k + 6, by have := trip_lt k; omega⟩) := by
  pointwise [k1_pay13]; exact masked k 6 (by decide) acc (h0 6 (by decide))
theorem pay14_at : k1_pay14 (F := Ideal) acc (k1_pay5 lanes 0#32 1#32 k) (ix2 0 0) = acc (ix2 0 ⟨8 * k + 7, by have := trip_lt k; omega⟩) := by
  pointwise [k1_pay14]; exact masked k 7 (by decide) acc (h0 7 (by decide))

end Members

/-- The product with the block's one-hot rows picks the block's own columns. -/
theorem pay16_at (k : Fin k1_t1_loop.trips) (v131 : FVec Ideal S8x1024 .f32) (r c : Fin 8) :
    k1_pay16 (F := Ideal) v131 (k1_pay15 rows (k1_pay5 lanes 0#32 1#32 k)) (ix2 r c)
      = v131 (ix2 r ⟨8 * k + c, by have := trip_lt k; omega⟩) := by
  have h15 : ∀ l : Fin 1024, k1_pay15 (F := Ideal) rows (k1_pay5 lanes 0#32 1#32 k) (ix2 c l) = if l.val = 8 * k + c then 1 else 0 := by
    intro l
    pointwise [k1_pay15, rows, kernelRun1_A.sl.v85]
    rw [cmp_eq k l c c.isLt, WordCmp.select_ofBool]; simp
  pointwise [k1_pay16]
  simp only [h15]
  have hk := trip_lt k
  rw [Finset.sum_eq_single (⟨8 * k + c, by omega⟩ : Fin 1024)]
  · simp
  · intro l _ hl
    rw [if_neg (fun e => hl (Fin.ext e)), mul_zero]
  · simp

section Fates
variable {p x : ℕ → Prop} {d : ℕ → ℕ → Prop} (B : Block p d x) (D : FVec Ideal S8x8 .f32) (hD : ∀ r c : Fin 8, D (ix2 r c) = ind (d r c))
  (v131 v211 : FVec Ideal S8x1024 .f32) (hM : k1_pay16 (F := Ideal) v131 v211 = D)
  {a0 a1 a2 a3 a4 a5 a6 a7 l1 l2 l3 l4 l5 l6 m4 n4 m6 n6 : FVec Ideal S1x1 .f32}
include B hD hM

theorem pay17_at (h0 : a0 (ix2 0 0) = ind (x 0)) (h1 : a1 (ix2 0 0) = ind (p 1)) :
    k1_pay17 (F := Ideal) v131 a0 a1 v211 (ix2 0 0) = ind (x 1) := by
  pointwise [k1_pay17]
  simp only [hM, hD, h0, h1, ind_step]
  refine ind_congr ?_
  rw [B.step 1]
  simp only [Nat.forall_lt_succ_right, Nat.not_lt_zero, false_imp_iff, implies_true, true_and, and_assoc]
  exact Iff.rfl

theorem pay18_at (h0 : a0 (ix2 0 0) = ind (x 0)) (h1 : a1 (ix2 0 0) = ind (p 1)) (h2 : a2 (ix2 0 0) = ind (p 2)) :
    k1_pay18 (F := Ideal) v131 a0 a1 a2 v211 (ix2 0 0) = ind (x 2) := by
  pointwise [k1_pay18]
  simp only [pay17_at B D hD v131 v211 hM h0 h1, hM, hD, h0, h2, ind_step]
  refine ind_congr ?_
  rw [B.step 2]
  simp only [Nat.forall_lt_succ_right, Nat.not_lt_zero, false_imp_iff, implies_true, true_and, and_assoc]
  exact Iff.rfl

theorem pay19_at (h0 : a0 (ix2 0 0) = ind (x 0)) (h1 : a1 (ix2 0 0) = ind (p 1)) (h2 : a2 (ix2 0 0) = ind (p 2))
    (h3 : a3 (ix2 0 0) = ind (p 3)) :
    k1_pay19 (F := Ideal) v131 a0 a1 a2 a3 v211 (ix2 0 0) = ind (x 3) := by
  pointwise [k1_pay19]
  simp only [pay17_at B D hD v131 v211 hM h0 h1, pay18_at B D hD v131 v211 hM h0 h1 h2, hM, hD, h0, h3, ind_step]
  refine ind_congr ?_
  rw [B.step 3]
  simp only [Nat.forall_lt_succ_right, Nat.not_lt_zero, false_imp_iff, implies_true, true_and, and_assoc]
  exact Iff.rfl

theorem pay20_at (h0 : a0 (ix2 0 0) = ind (x 0)) (h1 : a1 (ix2 0 0) = ind (p 1)) (h2 : a2 (ix2 0 0) = ind (p 2))
    (h4 : a4 (ix2 0 0) = ind (p 4)) :
    k1_pay20 (F := Ideal) v131 a0 a1 a2 a4 v211 (ix2 0 0) = ind (p 4 ∧ ¬ (x 0 ∧ d 4 0) ∧ ¬ (x 1 ∧ d 4 1) ∧ ¬ (x 2 ∧ d 4 2)) := by
  pointwise [k1_pay20]
  simp only [pay17_at B D hD v131 v211 hM h0 h1, pay18_at B D hD v131 v211 hM h0 h1 h2, hM, hD, h0, h4, ind_step]
  refine ind_congr ?_
  simp only [and_assoc]
  exact Iff.rfl

theorem pay21_at (h0 : a0 (ix2 0 0) = ind (x 0)) (h1 : a1 (ix2 0 0) = ind (p 1)) (h2 : a2 (ix2 0 0) = ind (p 2))
    (h3 : a3 (ix2 0 0) = ind (p 3)) :
    k1_pay21 (F := Ideal) v131 a0 a1 a2 a3 v211 (ix2 0 0) = ind (x 3) * ind (d 4 3) := by
  pointwise [k1_pay21]
  simp only [pay19_at B D hD v131 v211 hM h0 h1 h2 h3, hM, hD]
  rfl

omit hD hM in
theorem pay23_at (hm : m4 (ix2 0 0) = ind (p 4 ∧ ¬ (x 0 ∧ d 4 0) ∧ ¬ (x 1 ∧ d 4 1) ∧ ¬ (x 2 ∧ d 4 2)))
    (hn : n4 (ix2 0 0) = ind (x 3) * ind (d 4 3)) : k1_pay23 (F := Ideal) m4 n4 k1_pay22 (ix2 0 0) = ind (x 4) := by
  pointwise [k1_pay23, k1_pay22]
  simp only [hm, hn, ind_step]
  refine ind_congr ?_
  rw [B.step 4]
  simp only [Nat.forall_lt_succ_right, Nat.not_lt_zero, false_imp_iff, implies_true, true_and, and_assoc]

omit hM in
theorem pay24_at (h0 : a0 (ix2 0 0) = ind (x 0)) (h5 : a5 (ix2 0 0) = ind (p 5)) (h1 : l1 (ix2 0 0) = ind (x 1))
    (h2 : l2 (ix2 0 0) = ind (x 2)) (h3 : l3 (ix2 0 0) = ind (x 3))
    (hm : m4 (ix2 0 0) = ind (p 4 ∧ ¬ (x 0 ∧ d 4 0) ∧ ¬ (x 1 ∧ d 4 1) ∧ ¬ (x 2 ∧ d 4 2)))
    (hn : n4 (ix2 0 0) = ind (x 3) * ind (d 4 3)) :
    k1_pay24 (F := Ideal) a0 a5 D l1 l2 l3 m4 n4 k1_pay22 (ix2 0 0) = ind (x 5) := by
  pointwise [k1_pay24]
  simp only [pay23_at B hm hn, hD, h0, h1, h2, h3, h5, ind_step]
  refine ind_congr ?_
  rw [B.step 5]
  simp only [Nat.forall_lt_succ_right, Nat.not_lt_zero, false_imp_iff, implies_true, true_and, and_assoc]
  exact Iff.rfl

omit hM in
theorem pay25_at (h0 : a0 (ix2 0 0) = ind (x 0)) (h6 : a6 (ix2 0 0) = ind (p 6)) (h1 : l1 (ix2 0 0) = ind (x 1))
    (h2 : l2 (ix2 0 0) = ind (x 2)) (h3 : l3 (ix2 0 0) = ind (x 3)) :
    k1_pay25 (F := Ideal) a0 a6 D l1 l2 l3 (ix2 0 0)
      = ind (p 6 ∧ ¬ (x 0 ∧ d 6 0) ∧ ¬ (x 1 ∧ d 6 1) ∧ ¬ (x 2 ∧ d 6 2) ∧ ¬ (x 3 ∧ d 6 3)) := by
  pointwise [k1_pay25]
  simp only [hD, h0, h1, h2, h3, h6, ind_step]
  refine ind_congr ?_
  simp only [and_assoc]
  exact Iff.rfl

omit hM in
theorem pay26_at (hm : m4 (ix2 0 0) = ind (p 4 ∧ ¬ (x 0 ∧ d 4 0) ∧ ¬ (x 1 ∧ d 4 1) ∧ ¬ (x 2 ∧ d 4 2)))
    (hn : n4 (ix2 0 0) = ind (x 3) * ind (d 4 3)) :
    k1_pay26 (F := Ideal) D m4 n4 k1_pay22 (ix2 0 0) = ind (x 4) * ind (d 6 4) := by
  pointwise [k1_pay26]
  simp only [pay23_at B hm hn, hD]
  rfl

omit hM in
/-- The rows each box of the block suppresses with: nothing where the box has itself been suppressed. -/
theorem pay28_at (k : Fin k1_t1_loop.trips) {o : Fin 8 → Fin 1024 → Prop} (ho : ∀ r l, v131 (ix2 r l) = ind (o r l))
    (h0 : a0 (ix2 0 0) = ind (x 0)) (h7 : a7 (ix2 0 0) = ind (p 7)) (h1 : l1 (ix2 0 0) = ind (x 1))
    (h2 : l2 (ix2 0 0) = ind (x 2)) (h3 : l3 (ix2 0 0) = ind (x 3)) (h4 : l4 (ix2 0 0) = ind (x 4)) (h5 : l5 (ix2 0 0) = ind (x 5))
    (hm : m6 (ix2 0 0) = ind (p 6 ∧ ¬ (x 0 ∧ d 6 0) ∧ ¬ (x 1 ∧ d 6 1) ∧ ¬ (x 2 ∧ d 6 2) ∧ ¬ (x 3 ∧ d 6 3)))
    (hn : n6 (ix2 0 0) = ind (x 4) * ind (d 6 4)) (r : Fin 8) (l : Fin 1024) :
    k1_pay28 (F := Ideal) rows v131 (k1_pay5 lanes 0#32 1#32 k) a0 a7 D l1 l2 l3 l4 l5 m6 n6 k1_pay27 (ix2 r l)
      = ind (8 * k.val + r.val < l.val ∧ o r l ∧ x r) := by
  have e6 : m6 (ix2 0 0) * (1 - n6 (ix2 0 0)) * (1 - l5 (ix2 0 0) * D (ix2 6 5)) = ind (x 6) := by
    simp only [hm, hn, h5, hD, ind_step]
    refine ind_congr ?_
    rw [B.step 6]
    simp only [Nat.forall_lt_succ_right, Nat.not_lt_zero, false_imp_iff, implies_true, true_and, and_assoc]
    exact Iff.rfl
  have e7 : a7 (ix2 0 0) * (1 - a0 (ix2 0 0) * D (ix2 7 0)) * (1 - l1 (ix2 0 0) * D (ix2 7 1)) * (1 - l2 (ix2 0 0) * D (ix2 7 2))
      * (1 - l3 (ix2 0 0) * D (ix2 7 3)) * (1 - l4 (ix2 0 0) * D (ix2 7 4)) * (1 - l5 (ix2 0 0) * D (ix2 7 5))
      * (1 - m6 (ix2 0 0) * (1 - n6 (ix2 0 0)) * (1 - l5 (ix2 0 0) * D (ix2 6 5)) * D (ix2 7 6)) = ind (x 7) := by
    rw [e6]
    simp only [h7, h0, h1, h2, h3, h4, h5, hD, ind_step]
    refine ind_congr ?_
    rw [B.step 7]
    simp only [Nat.forall_lt_succ_right, Nat.not_lt_zero, false_imp_iff, implies_true, true_and, and_assoc]
    exact Iff.rfl
  have e : rows (ix2 r 0) = BitVec.ofNat 32 r := by pointwise [rows, kernelRun1_A.sl.v85]
  pointwise [k1_pay28, k1_pay27]
  refine (congrArg₂ (fun c v => Scalar.select c (v131 (ix2 r l) * v) 0)
    ((congrArg (IntOp.cmpi .sgt _) e).trans (cmp_gt k l r)) (?_ : _ = ind (x r))).trans ?_
  · fin_cases r
    · exact h0
    · exact h1
    · exact h2
    · exact h3
    · exact h4
    · exact h5
    · exact e6
    · exact e7
  · show Scalar.select _ (v131 (ix2 r l) * ind (x r)) 0 = _
    rw [ho, WordCmp.select_ofBool, ind_mul]
    by_cases h : 8 * k.val + r.val < l.val
    · rw [if_pos (by simpa using h)]; exact ind_congr (by simp [h])
    · rw [if_neg (by simpa using h), ind_false (fun a => h a.1)]

end Fates

theorem pay49_at (acc : FVec Ideal S1x1024 .f32) (v : FVec Ideal S8x1024 .f32) (l : Fin 1024) {o : Fin 8 → Prop}
    {q : Prop} (ha : acc (ix2 0 l) = ind q) (ho : ∀ r, v (ix2 r l) = ind (o r)) :
    k1_pay49 (F := Ideal) acc v (ix2 0 l) = ind (q ∧ ¬ ∃ r, o r) := by
  pointwise [k1_pay49]
  simp only [ofBits_neg_inf, ha, ho]
  rw [fold_max_ind_of_mem _ _ (Finset.mem_univ (0 : Fin 8)), min_ind_one, one_sub_ind, ind_mul]
  exact ind_congr (by simp)

/-- The trip as a function of the block's overlap rows, the trip number and the carried mask. -/
def trip (v126 : FVec Ideal S8x1024 .f32) (k : Fin k1_t1_loop.trips) (acc : FVec Ideal S1x1024 .f32) : FVec Ideal S1x1024 .f32 :=
  have v131 := k1_pay4 v126
  have v133 := k1_pay5 lanes 0#32 1#32 k
  have a0 := k1_pay6 lanes 0#32 1#32 k acc
  have a1 := k1_pay7 lanes 0#32 1#32 k acc
  have a2 := k1_pay8 lanes 0#32 1#32 k acc
  have a3 := k1_pay10 (k1_pay9 lanes 0#32 1#32 k acc)
  have v211 := k1_pay15 rows v133
  have v212 := k1_pay16 v131 v211
  have l1 := k1_pay17 v131 a0 a1 v211
  have l2 := k1_pay18 v131 a0 a1 a2 v211
  have l3 := k1_pay19 v131 a0 a1 a2 a3 v211
  have m4 := k1_pay20 v131 a0 a1 a2 (k1_pay11 acc v133) v211
  have n4 := k1_pay21 v131 a0 a1 a2 a3 v211
  k1_pay49 acc (k1_pay28 rows v131 v133 a0 (k1_pay14 acc v133) v212 l1 l2 l3 (k1_pay23 m4 n4 k1_pay22)
    (k1_pay24 a0 (k1_pay12 acc v133) v212 l1 l2 l3 m4 n4 k1_pay22) (k1_pay25 a0 (k1_pay13 acc v133) v212 l1 l2 l3)
    (k1_pay26 v212 m4 n4 k1_pay22) k1_pay27)

/-- A trip turns the mask after `8 k` turns into the mask after `8 k + 8`, on the lanes below the bound. -/
theorem trip_keep (valid : ℕ → Prop) (ov : ℕ → ℕ → Prop) (v126 : FVec Ideal S8x1024 .f32) (k : Fin k1_t1_loop.trips)
    (acc : FVec Ideal S1x1024 .f32)
    (hov : ∀ (r : Fin 8) (l : Fin 1024), l.val < 1000 → (thr < v126 (ix2 r l) ↔ ov (8 * k.val + r.val) l.val))
    (hsym : ∀ i j, i < 1000 → j < 1000 → (ov i j ↔ ov j i))
    (hacc : ∀ l : Fin 1024, l.val < 1000 → acc (ix2 0 l) = ind (keep valid ov (8 * k.val) l.val))
    (l : Fin 1024) (hl : l.val < 1000) :
    trip v126 k acc (ix2 0 l) = ind (keep valid ov (8 * (k.val + 1)) l.val) := by
  have hk := trip_lt k
  have h0 : ∀ c (hc : c < 8), 0 ≤ acc (ix2 0 ⟨8 * k + c, by omega⟩) := fun c hc => by
    rw [hacc _ (by show 8 * k.val + c < 1000; omega)]; exact ind_nonneg _
  have hp : ∀ c (hc : c < 8), acc (ix2 0 ⟨8 * k + c, by omega⟩) = ind (keep valid ov (8 * k.val) (8 * k.val + c)) := fun c hc =>
    hacc _ (by show 8 * k.val + c < 1000; omega)
  have B : Block (fun c => keep valid ov (8 * k.val) (8 * k.val + c)) (fun c t => ov (8 * k.val + t) (8 * k.val + c))
      (fun c => keep valid ov (8 * k.val + c) (8 * k.val + c)) := ⟨fun c => keep_block valid ov _ c⟩
  have h4 : ∀ (r : Fin 8) (l : Fin 1024), k1_pay4 (F := Ideal) v126 (ix2 r l) = ind (thr < v126 (ix2 r l)) := fun r l => pay4_at v126 r l
  have hD : ∀ r c : Fin 8, k1_pay16 (F := Ideal) (k1_pay4 v126) (k1_pay15 rows (k1_pay5 lanes 0#32 1#32 k)) (ix2 r c)
      = ind ((fun c t => ov (8 * k.val + t) (8 * k.val + c)) r.val c.val) := fun r c => by
    have := r.isLt
    have := c.isLt
    rw [pay16_at, h4]
    refine ind_congr ((hov r ⟨8 * k + c, by omega⟩ (by show 8 * k.val + c.val < 1000; omega)).trans (hsym (8 * k.val + r.val) (8 * k.val + c.val) (by omega) (by omega)))
  have a0 := (pay6_at k acc h0).trans (hp 0 (by decide))
  have a0' : k1_pay6 (F := Ideal) lanes 0#32 1#32 k acc (ix2 0 0) = ind (keep valid ov (8 * k.val + 0) (8 * k.val + 0)) := a0
  have a1 := (pay7_at k acc h0).trans (hp 1 (by decide))
  have a2 := (pay8_at k acc h0).trans (hp 2 (by decide))
  have a3 := (pay10_at k acc h0).trans (hp 3 (by decide))
  have a4 := (pay11_at k acc h0).trans (hp 4 (by decide))
  have a5 := (pay12_at k acc h0).trans (hp 5 (by decide))
  have a6 := (pay13_at k acc h0).trans (hp 6 (by decide))
  have a7 := (pay14_at k acc h0).trans (hp 7 (by decide))
  have l1 := pay17_at B _ hD _ _ rfl a0' a1
  have l2 := pay18_at B _ hD _ _ rfl a0' a1 a2
  have l3 := pay19_at B _ hD _ _ rfl a0' a1 a2 a3
  have m4 := pay20_at B _ hD _ _ rfl a0' a1 a2 a4
  have n4 := pay21_at B _ hD _ _ rfl a0' a1 a2 a3
  have l4 := pay23_at B m4 n4
  have l5 := pay24_at B _ hD a0' a5 l1 l2 l3 m4 n4
  have m6 := pay25_at B _ hD a0' a6 l1 l2 l3
  have n6 := pay26_at B _ hD m4 n4
  have v360 := fun r => pay28_at B _ hD _ k h4 a0' a7 l1 l2 l3 l4 l5 m6 n6 r l
  refine (pay49_at acc _ l (hacc l hl) v360).trans (ind_congr ?_)
  rw [show 8 * (k.val + 1) = 8 * k.val + 8 from by ring, keep_add]
  refine and_congr_right fun _ => ?_
  simp only [not_exists]
  constructor
  · rintro h t ht ⟨e1, e2, e3⟩
    exact h ⟨t, ht⟩ ⟨e3, (hov ⟨t, ht⟩ l hl).mpr e1, e2⟩
  · rintro h r ⟨e1, e2, e3⟩
    exact h r.val r.isLt ⟨(hov r l hl).mp e2, e3, e1⟩

end Cert.KernelIdeal.Nms

end
-- ==== Proof.Nms.Region1.lean ====
/- What the suppression region's body leaves in its three outputs, as the payloads over its five input blocks with the mask
   carried through the loop written as a recursion over the trips. -/
module

public import Idealize.ShloMosaic.Lib.Pipeline.ValueKit
public import Idealize.ShloMosaic.Lib.VecWindow
public import proofs.«01_k».proof.Proof.Nms.Trip

@[expose] public section

set_option maxRecDepth 16384

noncomputable section

namespace Cert.KernelIdeal.Nms

open Idealize.ShloMosaic Idealize.ShloMosaic.TcCoe
open Cert.KernelIdeal Cert.KernelIdeal.Gen Cert.Nms

/-- Every pair's overlap, as the region stores it. -/
def iouM (x0 : FVec Ideal S4x1024 .f32) (x1 : FVec Ideal S1024x4 .f32) (x3 : IVec S1x1024 32) (x4 : FVec Ideal S1024x1 .f32) :
    FVec Ideal S1024x1024 .f32 :=
  k1_pay47 (k1_pay36 x0 x1 x3) (k1_pay37 x0 x1 x3) (k1_pay38 x0 x1 x3) (k1_pay39 x0 x1 x3)
    (k1_pay40 x1 x4) (k1_pay41 x1 x4) (k1_pay42 x1 x4) (k1_pay43 x1 x4) (k1_pay44 x0 x1 x3 x4) (k1_pay45 x1 x4) (k1_pay46 x0 x1 x3)

/-- The eight rows trip `k` loads. -/
def rows8 (M : FVec Ideal S1024x1024 .f32) (k : Fin k1_t1_loop.trips) : FVec Ideal S8x1024 .f32 :=
  fun j => M ((Rect.unit (s := S1024x1024) (k1_off1 k) S8x1024.size (k1_off1_inb k)).emb j)

/-- The mask before trip `n`. -/
def maskAt (M : FVec Ideal S1024x1024 .f32) (init : FVec Ideal S1x1024 .f32) : ℕ → FVec Ideal S1x1024 .f32
  | 0 => init
  | n + 1 => if h : n < k1_t1_loop.trips then trip (rows8 M ⟨n, h⟩) ⟨n, h⟩ (maskAt M init n) else maskAt M init n

section
variable (𝒱 : Variants) (c : Dev nD) (bd : Option 𝒱.V) (arg0 : Memref sig .tc .vmem S4x1024 .f32) (harg0 : arg0.IsWhole) (arg1 : Memref sig .tc .vmem S1024x4 .f32) (harg1 : arg1.IsWhole) (arg2 : Memref sig .tc .vmem S1x1024 .f32) (harg2 : arg2.IsWhole) (arg3 : Memref sig .tc .vmem S1x1024 .i32) (harg3 : arg3.IsWhole) (arg4 : Memref sig .tc .vmem S1024x1 .f32) (harg4 : arg4.IsWhole) (arg5 : Memref sig .tc .vmem S4x1024 .f32) (harg5 : arg5.IsWhole) (arg6 : Memref sig .tc .vmem S1x1024 .i32) (harg6 : arg6.IsWhole) (arg7 : Memref sig .tc .vmem S1x1024 .f32) (harg7 : arg7.IsWhole) (arg8 : Memref sig .tc .vmem S1024x1024 .f32) (harg8 : arg8.IsWhole)
  (v5 v21 v23 v25 v27 : FVec Ideal S1x1024 .f32) (v29 v31 v33 v35 : FVec Ideal S1024x1 .f32) (v44 v45 v46 : FVec Ideal S1024x1024 .f32) (X : BufTy.Contents (Elt Ideal) arg8.view.ty)

theorem tripR_eq (M : FVec Ideal S1024x1024 .f32) (hM : arg8.view.read (Elt Ideal) X = M) (k : Fin k1_t1_loop.trips) (acc : FVec Ideal S1x1024 .f32) :
    tripR_k1_t1 (F := Ideal) 𝒱 c bd arg0 harg0 arg1 harg1 arg2 harg2 arg3 harg3 arg4 harg4 arg5 harg5 arg6 harg6 arg7 harg7 arg8 harg8 v5 v21 v23 v25 v27 v29 v31 v33 v35 v44 v45 v46 lanes rows X k acc
      = trip (rows8 M k) k acc := by
  subst hM
  unfold tripR_k1_t1 trip_k1_t1
  rfl

theorem st_eq (M : FVec Ideal S1024x1024 .f32) (hM : arg8.view.read (Elt Ideal) X = M) (init : FVec Ideal S1x1024 .f32) : ∀ n,
    st_k1_t1 (F := Ideal) 𝒱 c bd arg0 harg0 arg1 harg1 arg2 harg2 arg3 harg3 arg4 harg4 arg5 harg5 arg6 harg6 arg7 harg7 arg8 harg8 v5 v21 v23 v25 v27 v29 v31 v33 v35 v44 v45 v46 lanes rows X init n
      = maskAt M init n
  | 0 => rfl
  | n + 1 => by
    rw [maskAt, ← st_eq M hM init n]
    show st_k1_t1Step _ _ _ _ _ _ _ _ _ _ _ _ _ _ _ _ _ _ _ _ _ _ _ _ _ _ _ _ _ _ _ _ _ _ _ _ _ _ _ = _
    unfold st_k1_t1Step
    split
    · exact tripR_eq 𝒱 c bd arg0 harg0 arg1 harg1 arg2 harg2 arg3 harg3 arg4 harg4 arg5 harg5 arg6 harg6 arg7 harg7 arg8 harg8 v5 v21 v23 v25 v27 v29 v31 v33 v35 v44 v45 v46 X M hM _ _
    · rfl

end

/-- The mask the loop ends with. -/
def keepf (x0 : FVec Ideal S4x1024 .f32) (x1 : FVec Ideal S1024x4 .f32) (x2 : FVec Ideal S1x1024 .f32) (x3 : IVec S1x1024 32)
    (x4 : FVec Ideal S1024x1 .f32) : FVec Ideal S1x1024 .f32 :=
  maskAt (iouM x0 x1 x3 x4) (k1_pay48 x2) 125

theorem pay29_eq (x : FVec Ideal S4x1024 .f32) : k1_pay29 (F := Ideal) x = x := by
  funext j
  pointwise [k1_pay29]

theorem pay31_eq (x : FVec Ideal S1x1024 .f32) : k1_pay31 (F := Ideal) x = x := by
  funext j
  pointwise [k1_pay31]

theorem pay32_eq (x : IVec S1x1024 32) : k1_pay32 (F := Ideal) x = x := by
  funext j
  pointwise [k1_pay32]

theorem trips_eq : Scf.trips k1_t1_loop.lb k1_t1_loop.ub k1_t1_loop.st = 125 := by decide

/-- The run's own names for the loop's last value. -/
theorem r14_eq (c : Dev nD) (arg0 : Memref sig .tc .vmem S4x1024 .f32) (harg0 : arg0.IsWhole) (arg1 : Memref sig .tc .vmem S1024x4 .f32) (harg1 : arg1.IsWhole) (arg2 : Memref sig .tc .vmem S1x1024 .f32) (harg2 : arg2.IsWhole) (arg3 : Memref sig .tc .vmem S1x1024 .i32) (harg3 : arg3.IsWhole) (arg4 : Memref sig .tc .vmem S1024x1 .f32) (harg4 : arg4.IsWhole) (arg5 : Memref sig .tc .vmem S4x1024 .f32) (harg5 : arg5.IsWhole) (arg6 : Memref sig .tc .vmem S1x1024 .i32) (harg6 : arg6.IsWhole) (arg7 : Memref sig .tc .vmem S1x1024 .f32) (harg7 : arg7.IsWhole) (arg8 : Memref sig .tc .vmem S1024x1024 .f32) (harg8 : arg8.IsWhole)
    (x0 : FVec Ideal S4x1024 .f32) (x1 : FVec Ideal S1024x4 .f32) (x2 : FVec Ideal S1x1024 .f32) (x3 : IVec S1x1024 32) (x4 : FVec Ideal S1024x1 .f32) :
    kernelRun1_A.sl.r_14 (F := Ideal) c arg0 harg0 arg1 harg1 arg2 harg2 arg3 harg3 arg4 harg4 arg5 harg5 arg6 harg6 arg7 harg7 arg8 harg8 x0 x1 x2 x3 x4
      = keepf x0 x1 x2 x3 x4 := by
  unfold kernelRun1_A.sl.r_14 kernelRun1_A.sl.r_1 kernelRun1_A.sl.HS0_1 kernelRun1_A.sl.r_3 kernelRun1_A.sl.r_4 kernelRun1_A.sl.r_5
    kernelRun1_A.sl.r_6 kernelRun1_A.sl.r_7 kernelRun1_A.sl.r_8 kernelRun1_A.sl.r_9 kernelRun1_A.sl.r_10 kernelRun1_A.sl.r_11
    kernelRun1_A.sl.r_12 kernelRun1_A.sl.r_13
  repeat rw [View.readAt_full]
  rw [harg0.read_unread, harg1.read_unread, harg2.read_unread, harg3.read_unread, harg4.read_unread]
  rw [st_eq (hM := View.read_writes_full _ _ _ _ _), trips_eq, pay31_eq]
  unfold keepf iouM
  with_reducible rfl

end Cert.KernelIdeal.Nms

end
-- ==== Proof.Nms.Region1Out.lean ====
/- The suppression region's three output arrays after its run, over the arrays it was entered with. -/
module

public import proofs.«01_k».proof.Proof.Nms.Region1

@[expose] public section

set_option maxRecDepth 16384

noncomputable section

namespace Cert.KernelIdeal.Nms

open Idealize.ShloMosaic Idealize.ShloMosaic.TcCoe
open Cert.KernelIdeal Cert.KernelIdeal.Gen Cert.Nms

variable (V : (c : Dev nD) → (b : Ref sig .tc) → Buf (Elt Ideal) ((c : Thread nD τ).loc b)) (c : Dev nD)

theorem blk1_0 (t : Fin cfg1.N) : iblk1 (F := Ideal) V c 0 t = V c main_v11 := by
  funext y
  unfold iblk1
  refine congrArg (V c main_v11) (funext fun a => Fin.ext ?_)
  have h0 : ∀ t : Fin cfg1.N, win1_0.index t 0 = 0 := by decide +kernel
  have h1 : ∀ t : Fin cfg1.N, win1_0.index t 1 = 0 := by decide +kernel
  fin_cases a
  · blk_simp; rw [h0]; all_goals rw [Nat.zero_mul, Nat.zero_add]
  · blk_simp; rw [h1]; all_goals rw [Nat.zero_mul, Nat.zero_add]

theorem blk1_1 (t : Fin cfg1.N) : iblk1 (F := Ideal) V c 1 t = V c main_v9 := by
  funext y
  unfold iblk1
  refine congrArg (V c main_v9) (funext fun a => Fin.ext ?_)
  have h0 : ∀ t : Fin cfg1.N, win1_1.index t 0 = 0 := by decide +kernel
  have h1 : ∀ t : Fin cfg1.N, win1_1.index t 1 = 0 := by decide +kernel
  fin_cases a
  · blk_simp; rw [h0]; all_goals rw [Nat.zero_mul, Nat.zero_add]
  · blk_simp; rw [h1]; all_goals rw [Nat.zero_mul, Nat.zero_add]

theorem blk1_2 (t : Fin cfg1.N) : iblk1 (F := Ideal) V c 2 t = V c main_v12 := by
  funext y
  unfold iblk1
  refine congrArg (V c main_v12) (funext fun a => Fin.ext ?_)
  have h0 : ∀ t : Fin cfg1.N, win1_2.index t 0 = 0 := by decide +kernel
  have h1 : ∀ t : Fin cfg1.N, win1_2.index t 1 = 0 := by decide +kernel
  fin_cases a
  · blk_simp; rw [h0]; all_goals rw [Nat.zero_mul, Nat.zero_add]
  · blk_simp; rw [h1]; all_goals rw [Nat.zero_mul, Nat.zero_add]

theorem blk1_3 (t : Fin cfg1.N) : iblk1 (F := Ideal) V c 3 t = V c main_v13 := by
  funext y
  unfold iblk1
  refine congrArg (V c main_v13) (funext fun a => Fin.ext ?_)
  have h0 : ∀ t : Fin cfg1.N, win1_3.index t 0 = 0 := by decide +kernel
  have h1 : ∀ t : Fin cfg1.N, win1_3.index t 1 = 0 := by decide +kernel
  fin_cases a
  · blk_simp; rw [h0]; all_goals rw [Nat.zero_mul, Nat.zero_add]
  · blk_simp; rw [h1]; all_goals rw [Nat.zero_mul, Nat.zero_add]

theorem blk1_4 (t : Fin cfg1.N) : iblk1 (F := Ideal) V c 4 t = V c main_v15 := by
  funext y
  unfold iblk1
  refine congrArg (V c main_v15) (funext fun a => Fin.ext ?_)
  have h0 : ∀ t : Fin cfg1.N, win1_4.index t 0 = 0 := by decide +kernel
  have h1 : ∀ t : Fin cfg1.N, win1_4.index t 1 = 0 := by decide +kernel
  fin_cases a
  · blk_simp; rw [h0]; all_goals rw [Nat.zero_mul, Nat.zero_add]
  · blk_simp; rw [h1]; all_goals rw [Nat.zero_mul, Nat.zero_add]

/-- The mask the loop ends with, over the region's arrays. -/
abbrev keepV : FVec Ideal S1x1024 .f32 := keepf (V c main_v11) (V c main_v9) (V c main_v12) (V c main_v13) (V c main_v15)

theorem outs5 (t : Fin cfg1.N) : (outsAt1 (F := Ideal) V c t).1 = k1_pay1 (V c main_v11) (keepV V c) kernelRun1_A.sl.v88 2#32 0#32 := by
  unfold outsAt1 out1_A_5 kernelRun1_A
  dsimp only
  rw [View.read_writes_full, r14_eq, blk1_0, blk1_1, blk1_2, blk1_3, blk1_4]
  unfold kernelRun1_A.sl.r
  rw [View.readAt_full, Memref.IsWhole.read_unread, pay29_eq]

theorem outs6 (t : Fin cfg1.N) : (outsAt1 (F := Ideal) V c t).2.1 = k1_pay2 (V c main_v13) (keepV V c) := by
  unfold outsAt1 out1_A_6 kernelRun1_A
  dsimp only
  rw [View.read_writes_full, r14_eq, blk1_0, blk1_1, blk1_2, blk1_3, blk1_4]
  unfold kernelRun1_A.sl.r_2
  rw [View.readAt_full, Memref.IsWhole.read_unread, pay32_eq]

theorem outs7 (t : Fin cfg1.N) : (outsAt1 (F := Ideal) V c t).2.2 = k1_pay3 (V c main_v12) (keepV V c) := by
  unfold outsAt1 out1_A_7 kernelRun1_A
  dsimp only
  rw [View.read_writes_full, r14_eq, blk1_0, blk1_1, blk1_2, blk1_3, blk1_4]
  unfold kernelRun1_A.sl.r_1
  rw [View.readAt_full, Memref.IsWhole.read_unread, pay31_eq]

theorem arr5_of (G : FVec Ideal S4x1024 .f32) (hG : ∀ t, (dat1 (F := Ideal) V c).after 5 t = G) : (dat1 (F := Ideal) V c).arrAt 5 cfg1.N = G := by
  refine (dat1 (F := Ideal) V c).arrAt_eq_of_covers 5 _ (by decide +kernel) fun t hf y => ?_
  blk_simp
  rw [hG]
  refine congrArg G (funext fun a => Fin.ext ?_)
  have h0 : ∀ t : Fin cfg1.N, win1_5.index t 0 = 0 := by decide +kernel
  have h1 : ∀ t : Fin cfg1.N, win1_5.index t 1 = 0 := by decide +kernel
  fin_cases a
  · blk_simp; rw [h0]; all_goals rw [Nat.zero_mul, Nat.zero_add]
  · blk_simp; rw [h1]; all_goals rw [Nat.zero_mul, Nat.zero_add]

theorem arr5 : (dat1 (F := Ideal) V c).arrAt 5 cfg1.N = k1_pay1 (V c main_v11) (keepV V c) kernelRun1_A.sl.v88 2#32 0#32 :=
  arr5_of V c _ fun t => (after1_5 V c t).trans (outs5 V c t)

theorem arr6_of (G : IVec S1x1024 32) (hG : ∀ t, (dat1 (F := Ideal) V c).after 6 t = G) : (dat1 (F := Ideal) V c).arrAt 6 cfg1.N = G := by
  refine (dat1 (F := Ideal) V c).arrAt_eq_of_covers 6 _ (by decide +kernel) fun t hf y => ?_
  blk_simp
  rw [hG]
  refine congrArg G (funext fun a => Fin.ext ?_)
  have h0 : ∀ t : Fin cfg1.N, win1_6.index t 0 = 0 := by decide +kernel
  have h1 : ∀ t : Fin cfg1.N, win1_6.index t 1 = 0 := by decide +kernel
  fin_cases a
  · blk_simp; rw [h0]; all_goals rw [Nat.zero_mul, Nat.zero_add]
  · blk_simp; rw [h1]; all_goals rw [Nat.zero_mul, Nat.zero_add]

theorem arr6 : (dat1 (F := Ideal) V c).arrAt 6 cfg1.N = k1_pay2 (V c main_v13) (keepV V c) :=
  arr6_of V c _ fun t => (after1_6 V c t).trans (outs6 V c t)

theorem arr7_of (G : FVec Ideal S1x1024 .f32) (hG : ∀ t, (dat1 (F := Ideal) V c).after 7 t = G) : (dat1 (F := Ideal) V c).arrAt 7 cfg1.N = G := by
  refine (dat1 (F := Ideal) V c).arrAt_eq_of_covers 7 _ (by decide +kernel) fun t hf y => ?_
  blk_simp
  rw [hG]
  refine congrArg G (funext fun a => Fin.ext ?_)
  have h0 : ∀ t : Fin cfg1.N, win1_7.index t 0 = 0 := by decide +kernel
  have h1 : ∀ t : Fin cfg1.N, win1_7.index t 1 = 0 := by decide +kernel
  fin_cases a
  · blk_simp; rw [h0]; all_goals rw [Nat.zero_mul, Nat.zero_add]
  · blk_simp; rw [h1]; all_goals rw [Nat.zero_mul, Nat.zero_add]

theorem arr7 : (dat1 (F := Ideal) V c).arrAt 7 cfg1.N = k1_pay3 (V c main_v12) (keepV V c) :=
  arr7_of V c _ fun t => (after1_7 V c t).trans (outs7 V c t)

end Cert.KernelIdeal.Nms

end
-- ==== Proof.Nms.Iou.lean ====
/- The overlap of two boxes and what greedy suppression selects, over extended reals: what both programs compute from the
   thousand best boxes, their probabilities and their classes. -/
module

public import proofs.«01_k».proof.Proof.Nms.Spec

@[expose] public section

noncomputable section

namespace Cert.Nms

open Classical Idealize.ShloMosaic

/-- The least denominator the overlap's quotient takes. -/
def eps : Ideal .f32 := Ideal.ofBits .f32 0x3089705F#32
/-- The overlap above which a box is suppressed. -/
def thr : Ideal .f32 := Ideal.ofBits .f32 0x3EE66666#32
/-- The probability a box must exceed. -/
def low : Ideal .f32 := Ideal.ofBits .f32 0x3C23D70A#32
/-- The width and the height of the picture. -/
def side : Ideal .f32 := Ideal.ofBits .f32 0x44000000#32

/-- The area two boxes share. -/
def inter (a b : Fin 4 → Ideal .f32) : Ideal .f32 :=
  max (min (a 2) (b 2) - max (a 0) (b 0)) 0 * max (min (a 3) (b 3) - max (a 1) (b 1)) 0

/-- The area of one box. -/
def area (a : Fin 4 → Ideal .f32) : Ideal .f32 := max (a 2 - a 0) 0 * max (a 3 - a 1) 0

/-- The overlap of two boxes: the shared area over the area of their union. -/
def iou (a b : Fin 4 → Ideal .f32) : Ideal .f32 := Ideal.div (inter a b) (max (area a + area b - inter a b) eps)

theorem inter_comm (a b : Fin 4 → Ideal .f32) : inter a b = inter b a := by
  unfold inter
  rw [min_comm (a 2), max_comm (a 0), min_comm (a 3), max_comm (a 1)]

theorem iou_comm (a b : Fin 4 → Ideal .f32) : iou a b = iou b a := by
  unfold iou
  rw [inter_comm a b, show area a + area b = area b + area a from add_comm (G := EReal) _ _]

/-- A box moved by its class's offset. -/
def moved (mc : Ideal .f32) (b : Fin 4 → Ideal .f32) (c : Ideal .f32) : Fin 4 → Ideal .f32 := fun k => b k + c * (mc + 1)

/-- Which of the thousand boxes overlap, by position. -/
def ovl (mc : Ideal .f32) (bx : Fin 1000 → Fin 4 → Ideal .f32) (cl : Fin 1000 → Ideal .f32) (i j : ℕ) : Prop :=
  ∃ (hi : i < 1000) (hj : j < 1000), thr < iou (moved mc (bx ⟨i, hi⟩) (cl ⟨i, hi⟩)) (moved mc (bx ⟨j, hj⟩) (cl ⟨j, hj⟩))

theorem ovl_comm (mc : Ideal .f32) (bx : Fin 1000 → Fin 4 → Ideal .f32) (cl : Fin 1000 → Ideal .f32) (i j : ℕ) :
    ovl mc bx cl i j ↔ ovl mc bx cl j i :=
  ⟨fun ⟨hi, hj, h⟩ => ⟨hj, hi, by rw [iou_comm]; exact h⟩, fun ⟨hi, hj, h⟩ => ⟨hj, hi, by rw [iou_comm]; exact h⟩⟩

/-- Which boxes are probable enough, by position. -/
def good (val : Fin 1000 → Ideal .f32) (j : ℕ) : Prop := ∃ h : j < 1000, low < val ⟨j, h⟩

/-- Box `i` survives all thousand turns. -/
def kept (mc : Ideal .f32) (bx : Fin 1000 → Fin 4 → Ideal .f32) (cl val : Fin 1000 → Ideal .f32) (i : ℕ) : Prop :=
  keep (good val) (ovl mc bx cl) 1000 i

end Cert.Nms

end
-- ==== Proof.Nms.Mask.lean ====
/- The suppression region read at an index: the overlap matrix it stores, the mask its loop ends with, and its outputs. -/
module

public import proofs.«01_k».proof.Proof.Nms.Region1Out
public import proofs.«01_k».proof.Proof.Nms.Iou

@[expose] public section

set_option maxRecDepth 16384

noncomputable section

namespace Cert.KernelIdeal.Nms

open Idealize.ShloMosaic Idealize.ShloMosaic.TcCoe
open Cert.KernelIdeal Cert.KernelIdeal.Gen Cert.Nms

/-- The greatest co-ordinate, as the region takes it. -/
def top (x1 : FVec Ideal S1024x4 .f32) : Ideal .f32 :=
  Finset.fold max (Ideal.ofBits .f32 0xFF800000#32) (fun x : Fin 1024 × Fin 4 => x1 (ix2 x.1 x.2)) Finset.univ

/-- The overlap the region stores at row `r` and lane `l`. -/
theorem iouM_at (x0 : FVec Ideal S4x1024 .f32) (x1 : FVec Ideal S1024x4 .f32) (x3 : IVec S1x1024 32) (x4 : FVec Ideal S1024x1 .f32)
    (r l : Fin 1024) : iouM x0 x1 x3 x4 (ix2 r l)
      = iou (moved (top x1) (fun k => x1 (ix2 r k)) (x4 (ix2 r 0)))
          (moved (top x1) (fun k => x0 (ix2 k l)) (FloatOps.sitofp .f32 (x3 (ix2 0 l)))) := by
  have h30 : k1_pay30 (F := Ideal) x1 = x1 := by funext j; pointwise [k1_pay30]
  pointwise [iouM, k1_pay47, k1_pay36, k1_pay37, k1_pay38, k1_pay39, k1_pay40, k1_pay41, k1_pay42, k1_pay43, k1_pay44, k1_pay45, k1_pay46, k1_pay33, k1_pay34, k1_pay35]
  rw [h30, pay29_eq, pay32_eq]
  unfold iou inter area moved top eps
  rfl

/-- The mask the loop starts from. -/
theorem pay48_at (x : FVec Ideal S1x1024 .f32) (l : Fin 1024) : k1_pay48 x (ix2 0 l) = ind (low < x (ix2 0 l)) := by
  pointwise [k1_pay48]
  unfold ind low
  split <;> rfl

theorem off1_row : ∀ k : Fin k1_t1_loop.trips, k1_off1 k 0 = 8 * k.val := by decide +kernel

/-- Row `r` of trip `k`'s eight rows. -/
theorem rows8_at (M : FVec Ideal S1024x1024 .f32) (k : Fin k1_t1_loop.trips) (r : Fin 8) (l : Fin 1024) :
    rows8 M k (ix2 r l) = M (ix2 ⟨8 * k.val + r.val, by have := trip_lt k; omega⟩ l) := by
  unfold rows8
  refine congrArg M (funext fun a => Fin.ext ?_)
  refine (Rect.idx_unit_val _ _ _ _ _).trans ?_
  fin_cases a
  · exact congrArg (· + r.val) (off1_row k)
  · exact Nat.zero_add _

/-- The mask after `n` trips, on the thousand lanes that carry boxes. -/
theorem maskAt_keep (M : FVec Ideal S1024x1024 .f32) (init : FVec Ideal S1x1024 .f32) (valid : ℕ → Prop) (ov : ℕ → ℕ → Prop)
    (hM : ∀ r l : Fin 1024, r.val < 1000 → l.val < 1000 → (thr < M (ix2 r l) ↔ ov r.val l.val))
    (hsym : ∀ i j, i < 1000 → j < 1000 → (ov i j ↔ ov j i))
    (hinit : ∀ l : Fin 1024, l.val < 1000 → init (ix2 0 l) = ind (valid l.val)) :
    ∀ n, n ≤ 125 → ∀ l : Fin 1024, l.val < 1000 → maskAt M init n (ix2 0 l) = ind (keep valid ov (8 * n) l.val)
  | 0, _, l, hl => hinit l hl
  | n + 1, hn, l, hl => by
    have ht : n < k1_t1_loop.trips := by
      have : k1_t1_loop.trips = 125 := by decide
      omega
    rw [maskAt, dif_pos ht]
    exact trip_keep valid ov _ ⟨n, ht⟩ _
      (fun r l hl => by rw [rows8_at]; exact hM _ l (by have := trip_lt ⟨n, ht⟩; have := r.isLt; show 8 * n + r.val < 1000; omega) hl)
      hsym (maskAt_keep M init valid ov hM hsym hinit n (by omega)) l hl

/-- The loop's last mask: which boxes survive, when the region's arrays carry the thousand boxes `bx` with classes `cl` and
    probabilities `val`. -/
theorem keepf_at (x0 : FVec Ideal S4x1024 .f32) (x1 : FVec Ideal S1024x4 .f32) (x2 : FVec Ideal S1x1024 .f32) (x3 : IVec S1x1024 32)
    (x4 : FVec Ideal S1024x1 .f32) (bx : Fin 1000 → Fin 4 → Ideal .f32) (cl val : Fin 1000 → Ideal .f32)
    (h0 : ∀ (i : Fin 1000) k, x0 (ix2 k ⟨i.val, by omega⟩) = bx i k) (h1 : ∀ (i : Fin 1000) k, x1 (ix2 ⟨i.val, by omega⟩ k) = bx i k)
    (h2 : ∀ i : Fin 1000, x2 (ix2 0 ⟨i.val, by omega⟩) = val i)
    (h3 : ∀ i : Fin 1000, (FloatOps.sitofp .f32 (x3 (ix2 0 ⟨i.val, by omega⟩)) : Ideal .f32) = cl i)
    (h4 : ∀ i : Fin 1000, x4 (ix2 ⟨i.val, by omega⟩ 0) = cl i) (i : Fin 1000) :
    keepf x0 x1 x2 x3 x4 (ix2 0 ⟨i.val, by omega⟩) = ind (kept (top x1) bx cl val i.val) := by
  unfold keepf kept
  refine maskAt_keep _ _ (good val) (ovl (top x1) bx cl) (fun r l hr hl => ?_) (fun i j _ _ => ovl_comm _ _ _ i j) (fun l hl => ?_)
    125 le_rfl ⟨i.val, by omega⟩ i.isLt
  · rw [iouM_at]
    have e0 : ∀ k, x0 (ix2 k l) = bx ⟨l.val, hl⟩ k := h0 ⟨l.val, hl⟩
    have e1 : ∀ k, x1 (ix2 r k) = bx ⟨r.val, hr⟩ k := h1 ⟨r.val, hr⟩
    have e3 : (FloatOps.sitofp .f32 (x3 (ix2 0 l)) : Ideal .f32) = cl ⟨l.val, hl⟩ := h3 ⟨l.val, hl⟩
    have e4 : x4 (ix2 r 0) = cl ⟨r.val, hr⟩ := h4 ⟨r.val, hr⟩
    simp only [e0, e1, e3, e4]
    exact ⟨fun h => ⟨hr, hl, h⟩, fun ⟨_, _, h⟩ => h⟩
  · rw [pay48_at]
    refine ind_congr ?_
    have e2 : x2 (ix2 0 l) = val ⟨l.val, hl⟩ := h2 ⟨l.val, hl⟩
    rw [e2]
    exact ⟨fun h => ⟨hl, h⟩, fun ⟨_, h⟩ => h⟩

theorem pay1_at (x : FVec Ideal S4x1024 .f32) (k : FVec Ideal S1x1024 .f32) (v : IVec S4x1 32) (a : Fin 4) (l : Fin 1024) :
    k1_pay1 x k v 2#32 0#32 (ix2 a l) = x (ix2 a l) * k (ix2 0 l) * side := by
  pointwise [k1_pay1]
  rfl

theorem pay2_at (x : IVec S1x1024 32) (k : FVec Ideal S1x1024 .f32) (l : Fin 1024) :
    k1_pay2 x k (ix2 0 l) = if 0 < k (ix2 0 l) then IntOp.addi (x (ix2 0 l)) 1#32 else 0#32 := by
  pointwise [k1_pay2]

theorem pay3_at (x k : FVec Ideal S1x1024 .f32) (l : Fin 1024) : k1_pay3 x k (ix2 0 l) = x (ix2 0 l) * k (ix2 0 l) := by
  pointwise [k1_pay3]

end Cert.KernelIdeal.Nms

end
-- ==== Proof.Nms.Take.lean ====
/- Taking a thousand rows, by position, out of twenty thousand: the host operations both programs print for it. -/
module

public import proofs.«01_k».proof.Proof.Gen.KernelIdeal.Launch
public import Idealize.ShloMosaic.Lib.Pointwise

@[expose] public section

noncomputable section

namespace Cert.Nms

open Idealize.ShloMosaic
open Cert.KernelIdeal Cert.KernelIdeal.Gen

/-- The positions as a column, a negative one counted from the end. -/
def takePos (i : IVec S1000 32) : IVec S1000x1 32 :=
  broadcastInDim S1000x1 ![0] bcast_S1000_S1000x1_0
    (select (cmpi .slt i (broadcastInDim S1000 ![] bcast_S_S1000 (constantI S_ 32 0#32)))
      (addi i (broadcastInDim S1000 ![] bcast_S_S1000 (constantI S_ 32 20000#32))) i)

/-- Which positions are in range. -/
def takeOk (p : IVec S1000x1 32) : IVec S1000 1 :=
  Host.reduce IntOp.andi
    (andi (cmpi .sge p (broadcastInDim S1000x1 ![] bcast_S_S1000x1 (constantI S_ 32 0#32)))
      (cmpi .sle p (broadcastInDim S1000x1 ![0, 1] bcast_S1x1_S1000x1_0_1 (broadcastInDim S1x1 ![1] bcast_S1_S1x1_1 (constantI S1 32 19999#32)))))
    (constantI S_ 1 1#1) reducesTo_S1000x1_S1000_d1 h_S_

/-- The boxes at the positions `i`. -/
def takeBoxes (b : FVec Ideal S20000x4 .f32) (i : IVec S1000 32) : FVec Ideal S1000x4 .f32 :=
  select (broadcastInDim S1000x4 ![0] bcast_S1000_S1000x4_0 (takeOk (takePos i)))
    (Host.gather gather_S20000x4_S1000x1_S1000x4_1_0_n_n_0_1_14 b (takePos i))
    (broadcastInDim S1000x4 ![] bcast_S_S1000x4 (constant S_ .f32 0x7FC00000#32))

/-- The labels at the positions `i`. -/
def takeLabels (l : IVec S20000 32) (i : IVec S1000 32) : IVec S1000 32 :=
  select (takeOk (takePos i)) (Host.gather gather_S20000_S1000x1_S1000_n_0_n_n_0_1_1 l (takePos i))
    (broadcastInDim S1000 ![] bcast_S_S1000 (constantI S_ 32 2147483648#32))

/-- The thousand greatest values, greatest first. -/
def bestVals (x : FVec Ideal S20000 .f32) : FVec Ideal S1000 .f32 := (Host.topK S1000 0 (FloatOps.cmpfTotal .gt) x sliceFits_S20000_S1000).1
/-- Their positions. -/
def bestPos (x : FVec Ideal S20000 .f32) : IVec S1000 32 := (Host.topK S1000 0 (FloatOps.cmpfTotal .gt) x sliceFits_S20000_S1000).2

end Cert.Nms

end
-- ==== Proof.Nms.KHost.lean ====
/- The kernel program's host operations read back: what the suppression region is entered with, and what becomes of its outputs. -/
module

public import proofs.«01_k».proof.Proof.Nms.Region0Out
public import proofs.«01_k».proof.Proof.Nms.Mask
public import proofs.«01_k».proof.Proof.Nms.Take
public import Idealize.ShloMosaic.Lib.Claim

@[expose] public section

set_option maxRecDepth 16384

noncomputable section

namespace Cert.KernelIdeal.Nms

open Idealize.ShloMosaic Idealize.ShloMosaic.TcCoe Idealize.ShloMosaic.StableHlo
open Cert.KernelIdeal Cert.KernelIdeal.Gen Cert.Nms

section Stretches
variable (V : Valuation τ sig (Elt Ideal))

theorem ops0_v2 : after (hostOps0 (F := Ideal)) V (Proc.devRef .tc main_v2)
    = transpose S81x20000 [1, 0] (shapeCast S20000x81 (V (Proc.devRef .tc main_arg0)) shapeCasts_S1x20000x81_S20000x81) transposes_S20000x81_S81x20000_1_0 := by
  after_results; rfl

theorem ops0_v1 : after (hostOps0 (F := Ideal)) V (Proc.devRef .tc main_v1)
    = shapeCast S20000x4 (V (Proc.devRef .tc main_arg1)) shapeCasts_S1x20000x4_S20000x4 := by
  after_results; rfl

theorem ops1_values : after (hostOps1 (F := Ideal)) V (Proc.devRef .tc main_values)
    = bestVals (shapeCast S20000 (V (Proc.devRef .tc main_v3_0)) shapeCasts_S1x20000_S20000) := by
  after_results; rfl

theorem ops1_indices : after (hostOps1 (F := Ideal)) V (Proc.devRef .tc main_indices)
    = bestPos (shapeCast S20000 (V (Proc.devRef .tc main_v3_0)) shapeCasts_S1x20000_S20000) := by
  after_results; rfl

theorem ops1_v5 : after (hostOps1 (F := Ideal)) V (Proc.devRef .tc main_v5)
    = shapeCast S20000 (V (Proc.devRef .tc main_v3_1)) shapeCasts_S1x20000_S20000 := by
  after_results; rfl

theorem ops1_1_v6 : after (hostOps1_1 (F := Ideal)) V (Proc.devRef .tc main_v6)
    = takeBoxes (V (Proc.devRef .tc main_v1)) (V (Proc.devRef .tc main_indices)) := by
  after_results; rfl

theorem ops1_2_v7 : after (hostOps1_2 (F := Ideal)) V (Proc.devRef .tc main_v7)
    = takeLabels (V (Proc.devRef .tc main_v5)) (V (Proc.devRef .tc main_indices)) := by
  after_results; rfl

theorem ops1_3_c : after (hostOps1_3 (F := Ideal)) V (Proc.devRef .tc main_c) = constantI S_ 32 0#32 := by
  after_results

theorem ops1_4_v8 : after (hostOps1_4 (F := Ideal)) V (Proc.devRef .tc main_v8)
    = pad S1024 ![0] ![24] ![0] (V (Proc.devRef .tc main_values)) (sitofp (F := Ideal) .f32 (V (Proc.devRef .tc main_c))) pads_S1000_S1024_0240 h_S_ := by
  after_results; rfl

theorem ops1_5_c : after (hostOps1_5 (F := Ideal)) V (Proc.devRef .tc main_c_0) = constantI S_ 32 0#32 := by
  after_results

theorem ops1_6_v9 : after (hostOps1_6 (F := Ideal)) V (Proc.devRef .tc main_v9)
    = pad S1024x4 ![0, 0] ![24, 0] ![0, 0] (V (Proc.devRef .tc main_v6)) (sitofp (F := Ideal) .f32 (V (Proc.devRef .tc main_c_0))) pads_S1000x4_S1024x4_0240_000 h_S_ := by
  after_results; rfl

theorem ops1_8_v10 : after (hostOps1_8 (F := Ideal)) V (Proc.devRef .tc main_v10)
    = pad S1024 ![0] ![24] ![0] (V (Proc.devRef .tc main_v7)) (V (Proc.devRef .tc main_c_1)) pads_S1000_S1024_0240 h_S_ := by
  after_results; rfl

theorem ops1_9_v11 : after (hostOps1_9 (F := Ideal)) V (Proc.devRef .tc main_v11)
    = transpose S4x1024 [1, 0] (V (Proc.devRef .tc main_v9)) transposes_S1024x4_S4x1024_1_0 := by
  after_results

theorem ops1_9_v12 : after (hostOps1_9 (F := Ideal)) V (Proc.devRef .tc main_v12)
    = broadcastInDim S1x1024 ![1] bcast_S1024_S1x1024_1 (V (Proc.devRef .tc main_v8)) := by
  after_results

theorem ops1_9_v13 : after (hostOps1_9 (F := Ideal)) V (Proc.devRef .tc main_v13)
    = broadcastInDim S1x1024 ![1] bcast_S1024_S1x1024_1 (V (Proc.devRef .tc main_v10)) := by
  after_results

theorem ops1_9_v15 : after (hostOps1_9 (F := Ideal)) V (Proc.devRef .tc main_v15)
    = broadcastInDim S1024x1 ![0] bcast_S1024_S1024x1_0 (sitofp (F := Ideal) .f32 (V (Proc.devRef .tc main_v10))) := by
  after_results

theorem ops2_v18 : after (hostOps2 (F := Ideal)) V (Proc.devRef .tc main_v18)
    = extractStridedSlice S1000x4 ![0, 0] (transpose S1024x4 [1, 0] (V (Proc.devRef .tc main_v16_0)) transposes_S4x1024_S1024x4_1_0) slices_S1024x4_S1000x4_0_0 := by
  after_results

theorem ops2_v20 : after (hostOps2 (F := Ideal)) V (Proc.devRef .tc main_v20)
    = shapeCast S1000 (extractStridedSlice S1x1000 ![0, 0] (V (Proc.devRef .tc main_v16_1)) slices_S1x1024_S1x1000_0_0) shapeCasts_S1x1000_S1000 := by
  after_results; rfl

theorem ops2_v22 : after (hostOps2 (F := Ideal)) V (Proc.devRef .tc main_v22)
    = shapeCast S1000 (extractStridedSlice S1x1000 ![0, 0] (V (Proc.devRef .tc main_v16_2)) slices_S1x1024_S1x1000_0_0) shapeCasts_S1x1000_S1000 := by
  after_results; rfl

end Stretches

end Cert.KernelIdeal.Nms

end
-- ==== Proof.Nms.KVal.lean ====
/- The kernel program's three results, index by index, over the thousand best boxes, their labels and their probabilities. -/
module

public import proofs.«01_k».proof.Proof.Nms.KHost

@[expose] public section

set_option maxRecDepth 16384

noncomputable section

namespace Cert.Nms

open Idealize.ShloMosaic

/-- The greatest co-ordinate of the thousand boxes. -/
def topOf (bx : Fin 1000 → Fin 4 → Ideal .f32) : Ideal .f32 :=
  Finset.fold max (Ideal.ofBits .f32 0xFF800000#32) (fun x : Fin 1000 × Fin 4 => bx x.1 x.2) Finset.univ

end Cert.Nms

namespace Cert.Nms

open Idealize.ShloMosaic Cert.KernelIdeal

/-- The arrays as functions of a position. -/
def bxf (x : FVec Ideal S1000x4 .f32) : Fin 1000 → Fin 4 → Ideal .f32 := fun i k => x (ix2 i k)
def clf (x : IVec S1000 32) : Fin 1000 → Ideal .f32 := fun i => FloatOps.sitofp .f32 (x (ix1 i))
def vlf (x : FVec Ideal S1000 .f32) : Fin 1000 → Ideal .f32 := fun i => x (ix1 i)

/-- Box `i` of the thousand survives. -/
def survives (x : FVec Ideal S1000x4 .f32) (l : IVec S1000 32) (v : FVec Ideal S1000 .f32) (i : Fin 1000) : Prop :=
  kept (topOf (bxf x)) (bxf x) (clf l) (vlf v) i.val

/-- The three results over the thousand boxes, labels and probabilities. -/
def outBoxes (x : FVec Ideal S1000x4 .f32) (l : IVec S1000 32) (v : FVec Ideal S1000 .f32) : FVec Ideal S1000x4 .f32 :=
  fun j => x j * ind (survives x l v (j 0)) * side
open Classical in
def outLabels (x : FVec Ideal S1000x4 .f32) (l : IVec S1000 32) (v : FVec Ideal S1000 .f32) : IVec S1000 32 :=
  fun j => if survives x l v (j 0) then IntOp.addi (l j) 1#32 else 0#32
def outProbs (x : FVec Ideal S1000x4 .f32) (l : IVec S1000 32) (v : FVec Ideal S1000 .f32) : FVec Ideal S1000 .f32 :=
  fun j => v j * ind (survives x l v (j 0))

end Cert.Nms

namespace Cert.KernelIdeal.Nms

open Idealize.ShloMosaic Idealize.ShloMosaic.TcCoe Idealize.ShloMosaic.StableHlo
open Cert.KernelIdeal Cert.KernelIdeal.Gen Cert.Nms

/-- Every box's greatest foreground score, as the kernel computes it. -/
def kMax (x : FVec Ideal S1x20000x81 .f32) : FVec Ideal S20000 .f32 :=
  shapeCast S20000 (k0_pay2 (F := Ideal) (transpose S81x20000 [1, 0] (shapeCast S20000x81 x shapeCasts_S1x20000x81_S20000x81)
    transposes_S20000x81_S81x20000_1_0)) shapeCasts_S1x20000_S20000

/-- Every box's label, as the kernel computes it. -/
def kLab (x : FVec Ideal S1x20000x81 .f32) : IVec S20000 32 :=
  shapeCast S20000 (k0_pay3 (F := Ideal) (transpose S81x20000 [1, 0] (shapeCast S20000x81 x shapeCasts_S1x20000x81_S20000x81)
    transposes_S20000x81_S81x20000_1_0)) shapeCasts_S1x20000_S20000

/-- The boxes without the leading axis. -/
def flat (y : FVec Ideal S1x20000x4 .f32) : FVec Ideal S20000x4 .f32 := shapeCast S20000x4 y shapeCasts_S1x20000x4_S20000x4

section Boundaries
variable (m : (ℓ : Loc nD τ sig) → Buf (Elt Ideal) ℓ) (ρ : Dev nD → PrngReg) (c : Dev nD)

/-- The scores and the boxes the program is launched with. -/
abbrev scoresIn : FVec Ideal S1x20000x81 .f32 := m ((c.tc : Thread nD τ).loc main_arg0)
abbrev boxesIn : FVec Ideal S1x20000x4 .f32 := m ((c.tc : Thread nD τ).loc main_arg1)

/-- The thousand best boxes, their labels and their probabilities. -/
abbrev valK : FVec Ideal S1000 .f32 := bestVals (kMax (scoresIn m c))
abbrev posK : IVec S1000 32 := bestPos (kMax (scoresIn m c))
abbrev bxK : FVec Ideal S1000x4 .f32 := takeBoxes (flat (boxesIn m c)) (posK m c)
abbrev lbK : IVec S1000 32 := takeLabels (kLab (scoresIn m c)) (posK m c)

theorem w2_v3_0 : W2 m ρ c (Proc.devRef .tc main_v3_0) = k0_pay2 (F := Ideal) (transpose S81x20000 [1, 0]
    (shapeCast S20000x81 (scoresIn m c) shapeCasts_S1x20000x81_S20000x81) transposes_S20000x81_S81x20000_1_0) :=
  (W2_arr m ρ c 1).trans ((arr0_1 (V1 m ρ) c).trans (congrArg (k0_pay2 (F := Ideal)) (ops0_v2 (W0 m ρ c))))

theorem w2_v3_1 : W2 m ρ c (Proc.devRef .tc main_v3_1) = k0_pay3 (F := Ideal) (transpose S81x20000 [1, 0]
    (shapeCast S20000x81 (scoresIn m c) shapeCasts_S1x20000x81_S20000x81) transposes_S20000x81_S81x20000_1_0) :=
  (W2_arr m ρ c 2).trans ((arr0_2 (V1 m ρ) c).trans (congrArg (k0_pay3 (F := Ideal)) (ops0_v2 (W0 m ρ c))))

theorem w3_values : W3 m ρ c (Proc.devRef .tc main_values) = valK m c := by
  refine (ops1_values (W2 m ρ c)).trans ?_
  rw [w2_v3_0 m ρ c]; rfl

theorem w3_indices : W3 m ρ c (Proc.devRef .tc main_indices) = posK m c := by
  refine (ops1_indices (W2 m ρ c)).trans ?_
  rw [w2_v3_0 m ρ c]; rfl

theorem w3_v5 : W3 m ρ c (Proc.devRef .tc main_v5) = kLab (scoresIn m c) := by
  refine (ops1_v5 (W2 m ρ c)).trans ?_
  rw [w2_v3_1 m ρ c]; rfl

theorem w3_v1 : W3 m ρ c (Proc.devRef .tc main_v1) = flat (boxesIn m c) :=
  (W3_of m ρ c main_v1 (by decide +kernel)).trans ((W2_of_ne m ρ c main_v1 (by decide +kernel)).trans (ops0_v1 (W0 m ρ c)))

theorem w4_v6 : W4 m ρ c (Proc.devRef .tc main_v6) = bxK m c := by
  refine (ops1_1_v6 (W3 m ρ c)).trans ?_
  rw [w3_v1 m ρ c, w3_indices m ρ c]

theorem w5_v7 : W5 m ρ c (Proc.devRef .tc main_v7) = lbK m c := by
  refine (ops1_2_v7 (W4 m ρ c)).trans ?_
  rw [W4_of m ρ c main_v5 (by decide +kernel), W4_of m ρ c main_indices (by decide +kernel), w3_v5 m ρ c, w3_indices m ρ c]

/-- The thousand values, boxes and labels, each with twenty-four zero rows after it. -/
abbrev padVals (x : FVec Ideal S1000 .f32) : FVec Ideal S1024 .f32 :=
  pad S1024 ![0] ![24] ![0] x (sitofp (F := Ideal) .f32 (constantI S_ 32 0#32)) pads_S1000_S1024_0240 h_S_
abbrev padBoxes (x : FVec Ideal S1000x4 .f32) : FVec Ideal S1024x4 .f32 :=
  pad S1024x4 ![0, 0] ![24, 0] ![0, 0] x (sitofp (F := Ideal) .f32 (constantI S_ 32 0#32)) pads_S1000x4_S1024x4_0240_000 h_S_
abbrev padLabels (x : IVec S1000 32) : IVec S1024 32 :=
  pad S1024 ![0] ![24] ![0] x (constantI S_ 32 0#32) pads_S1000_S1024_0240 h_S_

theorem w7_v8 : W7 m ρ c (Proc.devRef .tc main_v8) = padVals (valK m c) := by
  refine (ops1_4_v8 (W6 m ρ c)).trans ?_
  rw [W6_of m ρ c main_values (by decide +kernel), W5_of m ρ c main_values (by decide +kernel), W4_of m ρ c main_values (by decide +kernel),
    w3_values m ρ c, show W6 m ρ c (Proc.devRef .tc main_c) = constantI S_ 32 0#32 from ops1_3_c (W5 m ρ c)]

theorem w9_v9 : W9 m ρ c (Proc.devRef .tc main_v9) = padBoxes (bxK m c) := by
  refine (ops1_6_v9 (W8 m ρ c)).trans ?_
  rw [W8_of m ρ c main_v6 (by decide +kernel), W7_of m ρ c main_v6 (by decide +kernel), W6_of m ρ c main_v6 (by decide +kernel),
    W5_of m ρ c main_v6 (by decide +kernel),
    w4_v6 m ρ c, show W8 m ρ c (Proc.devRef .tc main_c_0) = constantI S_ 32 0#32 from ops1_5_c (W7 m ρ c)]

theorem w11_v10 : W11 m ρ c (Proc.devRef .tc main_v10) = padLabels (lbK m c) := by
  refine (ops1_8_v10 (W10 m ρ c)).trans ?_
  rw [W10_of m ρ c main_v7 (by decide +kernel), W9_of m ρ c main_v7 (by decide +kernel), W8_of m ρ c main_v7 (by decide +kernel),
    W7_of m ρ c main_v7 (by decide +kernel), W6_of m ρ c main_v7 (by decide +kernel), w5_v7 m ρ c,
    show W10 m ρ c (Proc.devRef .tc main_c_1) = constantI S_ 32 0#32 from by after_results]

theorem w11_v9 : W11 m ρ c (Proc.devRef .tc main_v9) = padBoxes (bxK m c) := by
  rw [W11_of m ρ c main_v9 (by decide +kernel), W10_of m ρ c main_v9 (by decide +kernel), w9_v9]

theorem w11_v8 : W11 m ρ c (Proc.devRef .tc main_v8) = padVals (valK m c) := by
  rw [W11_of m ρ c main_v8 (by decide +kernel), W10_of m ρ c main_v8 (by decide +kernel), W9_of m ρ c main_v8 (by decide +kernel),
    W8_of m ρ c main_v8 (by decide +kernel), w7_v8]

/-! ### The region's inputs -/

theorem v12_v9 : V12 m ρ c main_v9 = padBoxes (bxK m c) := (W12_of m ρ c main_v9 (by decide +kernel)).trans (w11_v9 m ρ c)

theorem v12_v11 : V12 m ρ c main_v11 = transpose S4x1024 [1, 0] (padBoxes (bxK m c)) transposes_S1024x4_S4x1024_1_0 := by
  refine (ops1_9_v11 (W11 m ρ c)).trans ?_
  rw [w11_v9 m ρ c]

theorem v12_v12 : V12 m ρ c main_v12 = broadcastInDim S1x1024 ![1] bcast_S1024_S1x1024_1 (padVals (valK m c)) := by
  refine (ops1_9_v12 (W11 m ρ c)).trans ?_
  rw [w11_v8 m ρ c]

theorem v12_v13 : V12 m ρ c main_v13 = broadcastInDim S1x1024 ![1] bcast_S1024_S1x1024_1 (padLabels (lbK m c)) := by
  refine (ops1_9_v13 (W11 m ρ c)).trans ?_
  rw [w11_v10 m ρ c]

theorem v12_v15 : V12 m ρ c main_v15 = broadcastInDim S1024x1 ![0] bcast_S1024_S1024x1_0 (sitofp (F := Ideal) .f32 (padLabels (lbK m c))) := by
  refine (ops1_9_v15 (W11 m ρ c)).trans ?_
  rw [w11_v10 m ρ c]

end Boundaries

/-! ### The padded arrays at an index -/

theorem padVals_at (x : FVec Ideal S1000 .f32) (i : Fin 1000) : padVals x (ix1 ⟨i.val, by omega⟩) = x (ix1 i) := by
  pointwise [padVals]

theorem padLabels_at (x : IVec S1000 32) (i : Fin 1000) : padLabels x (ix1 ⟨i.val, by omega⟩) = x (ix1 i) := by
  pointwise [padLabels]

theorem padBoxes_at (x : FVec Ideal S1000x4 .f32) (i : Fin 1024) (k : Fin 4) :
    padBoxes x (ix2 i k) = if h : i.val < 1000 then x (ix2 ⟨i.val, h⟩ k) else 0 := by
  have h0 : (FloatOps.sitofp FTy.f32 0#32 : Ideal .f32) = 0 := by
    show (((0#32).toInt : ℝ) : EReal) = 0
    simp
  pointwise [padBoxes]
  rw [h0]

/-- The zero rows do not change the greatest co-ordinate when some co-ordinate is not negative. -/
theorem top_padBoxes (x : FVec Ideal S1000x4 .f32) (hx : ∃ i k, 0 ≤ x (ix2 i k)) : top (padBoxes x) = topOf (bxf x) := by
  unfold top topOf bxf
  apply le_antisymm
  · refine (Finset.fold_max_le _).mpr ⟨(Finset.le_fold_max _).mpr (Or.inl le_rfl), fun y _ => ?_⟩
    rw [padBoxes_at]
    split
    · next h => exact (Finset.le_fold_max _).mpr (Or.inr ⟨(⟨y.1.val, h⟩, y.2), Finset.mem_univ _, le_rfl⟩)
    · obtain ⟨i, k, h⟩ := hx
      exact (Finset.le_fold_max _).mpr (Or.inr ⟨(i, k), Finset.mem_univ _, h⟩)
  · refine (Finset.fold_max_le _).mpr ⟨(Finset.le_fold_max _).mpr (Or.inl le_rfl), fun y _ => ?_⟩
    refine (Finset.le_fold_max _).mpr (Or.inr ⟨(⟨y.1.val, by omega⟩, y.2), Finset.mem_univ _, ?_⟩)
    rw [padBoxes_at, dif_pos y.1.isLt]

section Results
variable (m : (ℓ : Loc nD τ sig) → Buf (Elt Ideal) ℓ) (ρ : Dev nD → PrngReg) (c : Dev nD)

/-- The region's last mask on the thousand boxes. -/
theorem keepV_at (hx : ∃ i k, 0 ≤ bxK m c (ix2 i k)) (i : Fin 1000) :
    keepV (V12 m ρ) c (ix2 0 ⟨i.val, by omega⟩) = ind (survives (bxK m c) (lbK m c) (valK m c) i) := by
  unfold keepV
  rw [v12_v11 m ρ c, v12_v9 m ρ c, v12_v12 m ρ c, v12_v13 m ρ c, v12_v15 m ρ c]
  rw [keepf_at _ _ _ _ _ (bxf (bxK m c)) (clf (lbK m c)) (vlf (valK m c)) (fun i k => ?_) (fun i k => ?_) (fun i => ?_) (fun i => ?_) (fun i => ?_) i,
    top_padBoxes _ hx]
  · rfl
  · pointwise []
    rfl
  · rw [padBoxes_at, dif_pos i.isLt]; rfl
  · pointwise []
    rfl
  · pointwise []
    rfl
  · pointwise []
    rfl

open Classical in
/-- The label result under a mask that is an indicator. -/
theorem pay2_ind (x : IVec S1x1024 32) (k : FVec Ideal S1x1024 .f32) (l : Fin 1024) (p : Prop) (h : k (ix2 0 l) = ind p) :
    k1_pay2 x k (ix2 0 l) = if p then IntOp.addi (x (ix2 0 l)) 1#32 else 0#32 := by
  rw [pay2_at, h]
  by_cases hp : p
  · rw [if_pos hp, if_pos (ind_pos.mpr hp)]
  · rw [if_neg hp, if_neg (fun e => hp (ind_pos.mp e))]

theorem v18_eq (hx : ∃ i k, 0 ≤ bxK m c (ix2 i k)) :
    W14 m ρ c (Proc.devRef .tc main_v18) = outBoxes (bxK m c) (lbK m c) (valK m c) := by
  refine (ops2_v18 (W13 m ρ c)).trans ?_
  have e : W13 m ρ c (Proc.devRef .tc main_v16_0) = _ := (W13_arr m ρ c 5).trans (arr5 (V12 m ρ) c)
  rw [e, v12_v11 m ρ c]
  funext j
  idx_vars j
  unfold outBoxes
  pointwise []
  rw [pay1_at, keepV_at m ρ c hx j0]
  pointwise []

theorem v20_eq (hx : ∃ i k, 0 ≤ bxK m c (ix2 i k)) :
    W14 m ρ c (Proc.devRef .tc main_v20) = outLabels (bxK m c) (lbK m c) (valK m c) := by
  refine (ops2_v20 (W13 m ρ c)).trans ?_
  have e : W13 m ρ c (Proc.devRef .tc main_v16_1) = _ := (W13_arr m ρ c 6).trans (arr6 (V12 m ρ) c)
  rw [e, v12_v13 m ρ c]
  funext j
  idx_vars j
  unfold outLabels
  pointwise []
  refine (pay2_ind _ _ _ _ (keepV_at m ρ c hx j0)).trans ?_
  pointwise []

theorem v22_eq (hx : ∃ i k, 0 ≤ bxK m c (ix2 i k)) :
    W14 m ρ c (Proc.devRef .tc main_v22) = outProbs (bxK m c) (lbK m c) (valK m c) := by
  refine (ops2_v22 (W13 m ρ c)).trans ?_
  have e : W13 m ρ c (Proc.devRef .tc main_v16_2) = _ := (W13_arr m ρ c 7).trans (arr7 (V12 m ρ) c)
  rw [e, v12_v12 m ρ c]
  funext j
  idx_vars j
  unfold outProbs
  pointwise []
  rw [pay3_at, keepV_at m ρ c hx j0]
  pointwise []

end Results

end Cert.KernelIdeal.Nms

end
-- ==== Proof.Nms.RHost.lean ====
/- The reference's host operations read back: what its loop is entered with, and what becomes of the loop's flags. -/
module

public import proofs.«01_k».proof.Proof.Nms.RefRun
public import proofs.«01_k».proof.Proof.Nms.KVal
public import Idealize.ShloMosaic.Lib.Claim

@[expose] public section

set_option maxRecDepth 16384

noncomputable section

namespace Cert.ReferenceIdeal.Nms

open Idealize.ShloMosaic Idealize.ShloMosaic.TcCoe Idealize.ShloMosaic.StableHlo
open Cert.ReferenceIdeal Cert.ReferenceIdeal.Gen Cert.ReferenceIdeal.Value Cert.Nms
open Cert.KernelIdeal.Nms (flat)

/-- The foreground scores: every column but the first. -/
def fore (x : FVec Ideal S1x20000x81 .f32) : FVec Ideal S20000x80 .f32 :=
  extractStridedSlice S20000x80 ![0, 1] (shapeCast S20000x81 x shapeCasts_S1x20000x81_S20000x81) slices_S20000x81_S20000x80_0_1

/-- Every row's greatest score. -/
def rowMax (y : FVec Ideal S20000x80 .f32) : FVec Ideal S20000 .f32 :=
  Host.reduce FloatOps.maximumf y (constant S_ .f32 0xFF800000#32) reducesTo_S20000x80_S20000_d1 h_S_

/-- The column of every row's greatest score. -/
def rowArg (y : FVec Ideal S20000x80 .f32) : IVec S20000 32 := fun j =>
  (Host.argReduce reducer_argmax_f32_i32 y (iotaInDim S20000x80 32 1) (constant S_ .f32 0xFF800000#32) (constantI S_ 32 0#32)
    reducesTo_S20000x80_S20000_d1 h_S_ j).2

section
variable (V : Valuation τ sig (Elt Ideal))

theorem ops0_cst : after (hostOps0 (F := Ideal)) V (Proc.devRef .tc main_cst) = constant (F := Ideal) S4 .f32 0x44000000#32 := by
  after_results

theorem ops0_v1 : after (hostOps0 (F := Ideal)) V (Proc.devRef .tc main_v1) = flat (V (Proc.devRef .tc main_arg1)) := by
  after_results; rfl

theorem ops0_v2 : after (hostOps0 (F := Ideal)) V (Proc.devRef .tc main_v2) = fore (V (Proc.devRef .tc main_arg0)) := by
  after_results; rfl

theorem ops0_v3 : after (hostOps0 (F := Ideal)) V (Proc.devRef .tc main_v3) = rowMax (fore (V (Proc.devRef .tc main_arg0))) := by
  after_results; rfl

theorem ops1_v4 : after (hostOps0_1 (F := Ideal)) V (Proc.devRef .tc main_v4) = rowArg (V (Proc.devRef .tc main_v2)) := by
  after_results; rfl

theorem ops2_values : after (hostOps0_2 (F := Ideal)) V (Proc.devRef .tc main_values) = bestVals (V (Proc.devRef .tc main_v3)) := by
  after_results; rfl

theorem ops2_indices : after (hostOps0_2 (F := Ideal)) V (Proc.devRef .tc main_indices) = bestPos (V (Proc.devRef .tc main_v3)) := by
  after_results; rfl

theorem ops3_v5 : after (hostOps0_3 (F := Ideal)) V (Proc.devRef .tc main_v5)
    = takeBoxes (V (Proc.devRef .tc main_v1)) (V (Proc.devRef .tc main_indices)) := by
  after_results; rfl

theorem ops4_v6 : after (hostOps0_4 (F := Ideal)) V (Proc.devRef .tc main_v6)
    = takeLabels (V (Proc.devRef .tc main_v4)) (V (Proc.devRef .tc main_indices)) := by
  after_results; rfl

theorem post_v86 : afterL (postI (F := Ideal)) V (Proc.devRef .tc main_v86)
    = mulf (F := Ideal) (mulf (V (Proc.devRef .tc main_v5)) (broadcastInDim S1000x4 ![0, 1] bcast_S1000x1_S1000x4_0_1
        (broadcastInDim S1000x1 ![0] bcast_S1000_S1000x1_0 (uitofp .f32 (V (Proc.devRef .tc main_v79_4))))))
      (broadcastInDim S1000x4 ![0, 1] bcast_S1x4_S1000x4_0_1 (broadcastInDim S1x4 ![1] bcast_S4_S1x4_1 (V (Proc.devRef .tc main_cst)))) := by
  simp only [afterL_cons, afterL_nil]
  after_results

theorem post_v89 : afterL (postI (F := Ideal)) V (Proc.devRef .tc main_v89)
    = select (V (Proc.devRef .tc main_v79_4)) (addi (V (Proc.devRef .tc main_v6)) (broadcastInDim S1000 ![] bcast_S_S1000 (constantI S_ 32 1#32)))
      (broadcastInDim S1000 ![] bcast_S_S1000 (constantI S_ 32 0#32)) := by
  simp only [afterL_cons, afterL_nil]
  after_results; rfl

theorem post_v90 : afterL (postI (F := Ideal)) V (Proc.devRef .tc main_v90)
    = mulf (F := Ideal) (V (Proc.devRef .tc main_values)) (uitofp .f32 (V (Proc.devRef .tc main_v79_4))) := by
  simp only [afterL_cons, afterL_nil]
  after_results

end

end Cert.ReferenceIdeal.Nms

end
-- ==== Proof.Nms.RIou.lean ====
/- The reference's operations between the taken boxes and its loop: the moved boxes and every pair's overlap. -/
module

public import proofs.«01_k».proof.Proof.Nms.RefRun
public import proofs.«01_k».proof.Proof.Nms.Iou
public import Idealize.ShloMosaic.Lib.Claim

@[expose] public section

set_option maxRecDepth 16384

noncomputable section

namespace Cert.ReferenceIdeal.Nms

open Idealize.ShloMosaic Idealize.ShloMosaic.TcCoe Idealize.ShloMosaic.StableHlo
open Cert.ReferenceIdeal Cert.ReferenceIdeal.Gen Cert.ReferenceIdeal.Value Cert.Nms

/-- The boxes moved by their class's offset. -/
def movedR (bx : FVec Ideal S1000x4 .f32) (lb : IVec S1000 32) : FVec Ideal S1000x4 .f32 :=
  addf bx (broadcastInDim S1000x4 ![0, 1] bcast_S1000x1_S1000x4_0_1 (broadcastInDim S1000x1 ![0] bcast_S1000_S1000x1_0
    (mulf (sitofp .f32 lb) (broadcastInDim S1000 ![] bcast_S_S1000
      (addf (Host.reduce FloatOps.maximumf bx (constant S_ .f32 0xFF800000#32) reducesTo_S1000x4_S_d0_1 h_S_) (constant S_ .f32 0x3F800000#32))))))

/-- The sides of every pair's intersection. -/
def sidesR (mv : FVec Ideal S1000x4 .f32) : FVec Ideal S1000x1000x2 .f32 :=
  maximumf
    (subf
      (minimumf
        (broadcastInDim S1000x1000x2 ![0, 1, 2] bcast_S1000x1x2_S1000x1000x2_0_1_2 (broadcastInDim S1000x1x2 ![0, 2] bcast_S1000x2_S1000x1x2_0_2
          (extractStridedSlice S1000x2 ![0, 2] mv slices_S1000x4_S1000x2_0_2)))
        (broadcastInDim S1000x1000x2 ![0, 1, 2] bcast_S1x1000x2_S1000x1000x2_0_1_2 (broadcastInDim S1x1000x2 ![1, 2] bcast_S1000x2_S1x1000x2_1_2
          (extractStridedSlice S1000x2 ![0, 2] mv slices_S1000x4_S1000x2_0_2))))
      (maximumf
        (broadcastInDim S1000x1000x2 ![0, 1, 2] bcast_S1000x1x2_S1000x1000x2_0_1_2 (broadcastInDim S1000x1x2 ![0, 2] bcast_S1000x2_S1000x1x2_0_2
          (extractStridedSlice S1000x2 ![0, 0] mv slices_S1000x4_S1000x2_0_0)))
        (broadcastInDim S1000x1000x2 ![0, 1, 2] bcast_S1x1000x2_S1000x1000x2_0_1_2 (broadcastInDim S1x1000x2 ![1, 2] bcast_S1000x2_S1x1000x2_1_2
          (extractStridedSlice S1000x2 ![0, 0] mv slices_S1000x4_S1000x2_0_0)))))
    (broadcastInDim S1000x1000x2 ![] bcast_S_S1000x1000x2 (constant S_ .f32 0x00000000#32))

/-- Every pair's shared area. -/
def interR (mv : FVec Ideal S1000x4 .f32) : FVec Ideal S1000x1000 .f32 :=
  mulf (shapeCast S1000x1000 (extractStridedSlice S1000x1000x1 ![0, 0, 0] (sidesR mv) slices_S1000x1000x2_S1000x1000x1_0_0_0) shapeCasts_S1000x1000x1_S1000x1000)
    (shapeCast S1000x1000 (extractStridedSlice S1000x1000x1 ![0, 0, 1] (sidesR mv) slices_S1000x1000x2_S1000x1000x1_0_0_1) shapeCasts_S1000x1000x1_S1000x1000)

/-- Every box's area. -/
def areaR (mv : FVec Ideal S1000x4 .f32) : FVec Ideal S1000 .f32 :=
  mulf
    (maximumf (subf (shapeCast S1000 (extractStridedSlice S1000x1 ![0, 2] mv slices_S1000x4_S1000x1_0_2) shapeCasts_S1000x1_S1000)
        (shapeCast S1000 (extractStridedSlice S1000x1 ![0, 0] mv slices_S1000x4_S1000x1_0_0) shapeCasts_S1000x1_S1000))
      (broadcastInDim S1000 ![] bcast_S_S1000 (constant S_ .f32 0x00000000#32)))
    (maximumf (subf (shapeCast S1000 (extractStridedSlice S1000x1 ![0, 3] mv slices_S1000x4_S1000x1_0_3) shapeCasts_S1000x1_S1000)
        (shapeCast S1000 (extractStridedSlice S1000x1 ![0, 1] mv slices_S1000x4_S1000x1_0_1) shapeCasts_S1000x1_S1000))
      (broadcastInDim S1000 ![] bcast_S_S1000 (constant S_ .f32 0x00000000#32)))

/-- Every pair's overlap. -/
def iouR (mv : FVec Ideal S1000x4 .f32) : FVec Ideal S1000x1000 .f32 :=
  Host.divf (interR mv)
    (maximumf
      (subf
        (addf (broadcastInDim S1000x1000 ![0, 1] bcast_S1000x1_S1000x1000_0_1 (broadcastInDim S1000x1 ![0] bcast_S1000_S1000x1_0 (areaR mv)))
          (broadcastInDim S1000x1000 ![0, 1] bcast_S1x1000_S1000x1000_0_1 (broadcastInDim S1x1000 ![1] bcast_S1000_S1x1000_1 (areaR mv))))
        (interR mv))
      (broadcastInDim S1000x1000 ![] bcast_S_S1000x1000 (constant S_ .f32 0x3089705F#32)))

section
variable (V : Valuation τ sig (Elt Ideal))

set_option maxHeartbeats 4000000 in
theorem ops5_v79_0 : after (hostOps0_5 (F := Ideal)) V (Proc.devRef .tc main_v79_0)
    = iouR (movedR (V (Proc.devRef .tc main_v5)) (V (Proc.devRef .tc main_v6))) := by
  after_results; rfl

set_option maxHeartbeats 4000000 in
theorem ops5_v79_1 : after (hostOps0_5 (F := Ideal)) V (Proc.devRef .tc main_v79_1) = iotaInDim S1000 32 0 := by
  after_results; rfl

set_option maxHeartbeats 4000000 in
theorem ops5_v79_3 : after (hostOps0_5 (F := Ideal)) V (Proc.devRef .tc main_v79_3) = constantI S_ 32 0#32 := by
  after_results; rfl

set_option maxHeartbeats 4000000 in
theorem ops5_v79_4 : after (hostOps0_5 (F := Ideal)) V (Proc.devRef .tc main_v79_4)
    = cmpf (F := Ideal) .ogt (V (Proc.devRef .tc main_values)) (broadcastInDim S1000 ![] bcast_S_S1000 (constant S_ .f32 0x3C23D70A#32)) := by
  after_results; rfl

end

/-- One co-ordinate of a moved box. -/
theorem movedR_at (bx : FVec Ideal S1000x4 .f32) (lb : IVec S1000 32) (i : Fin 1000) (k : Fin 4) :
    movedR bx lb (ix2 i k)
      = moved (Finset.fold max (Ideal.ofBits .f32 0xFF800000#32) (fun x : Fin 1000 × Fin 4 => bx (ix2 x.1 x.2)) Finset.univ)
          (fun k => bx (ix2 i k)) (FloatOps.sitofp .f32 (lb (ix1 i))) k := by
  pointwise [movedR]
  rfl

/-- One pair's overlap. -/
theorem iouR_at (mv : FVec Ideal S1000x4 .f32) (i j : Fin 1000) :
    iouR mv (ix2 i j) = iou (fun k => mv (ix2 i k)) (fun k => mv (ix2 j k)) := by
  pointwise [iouR, interR, areaR, sidesR]
  rfl

end Cert.ReferenceIdeal.Nms

end
-- ==== Proof.Nms.RTrip.lean ====
/- One turn of the reference's loop, read at an index. -/
module

public import proofs.«01_k».proof.Proof.Nms.RefRun
public import proofs.«01_k».proof.Proof.Nms.Iou
public import Idealize.ShloMosaic.Lib.Pointwise
public import Idealize.ShloMosaic.Lib.DynamicIndex

@[expose] public section

set_option maxRecDepth 16384

noncomputable section

namespace Cert.ReferenceIdeal.Nms

open Idealize.ShloMosaic Idealize.ShloMosaic.TcCoe Idealize.ShloMosaic.StableHlo
open Cert.ReferenceIdeal Cert.ReferenceIdeal.Gen Cert.ReferenceIdeal.Value Cert.Nms

theorem ofBool_eq_one_iff (p : Prop) [Decidable p] : BitVec.ofBool (decide p) = 1#1 ↔ p := by
  by_cases h : p <;> simp [h]

/-- The loop's body on its flags: box `j` stays unless row `k` suppresses it. -/
theorem step_at (V0 : Valuation τ sig (Elt Ideal)) (M : FVec Ideal S1000x1000 .f32) (K : IVec S1000 1) (k : ℕ) (hk : k < 1000)
    (h0 : V0 (Proc.devRef .tc main_v79_0) = M) (h1 : V0 (Proc.devRef .tc main_v79_1) = iotaInDim S1000 32 0)
    (h3 : V0 (Proc.devRef .tc main_v79_3) = constantI S_ 32 (BitVec.ofNat 32 k)) (h4 : V0 (Proc.devRef .tc main_v79_4) = K) (j : Fin 1000) :
    (step_main_v79_4 V0 : IVec S1000 1) (ix1 j) = 1#1 ↔ K (ix1 j) = 1#1 ∧ ¬ (thr < M (ix2 ⟨k, hk⟩ j) ∧ K (ix1 ⟨k, hk⟩) = 1#1 ∧ k < j.val) := by
  have e1 : S1000x1000.Slices ![k, 0] S1x1000 := ⟨rfl, fun a => by fin_cases a <;> simp <;> omega⟩
  have e2 : S1000.Slices ![k] S1 := ⟨rfl, fun a => by fin_cases a; simp; omega⟩
  unfold step_main_v79_4 res_main_while0b_v92
  rw [h0, h1, h3, h4]
  rw [Host.dynamicSlice_eq_extractStridedSlice S1x1000 M _ ![k, 0] _ e1 ?_, Host.dynamicSlice_eq_extractStridedSlice S1 K _ ![k] _ e2 ?_]
  · simp only [id_eq]
    pointwise []
    rw [IntOp.andi_eq_one, IntOp.not_eq_one, IntOp.andi_eq_one, IntOp.andi_eq_one, ofBool_eq_one_iff, IntOp.cmpi_sgt,
      toInt_ofNat_of_lt (by omega), toInt_ofNat_of_lt (by omega), and_assoc, Int.ofNat_lt]
    rfl
  · intro a; fin_cases a
    exact toInt_wrap_ofNat k (by omega)
  · intro a; fin_cases a
    · exact toInt_wrap_ofNat k (by omega)
    · rfl

/-- The loop's carried buffers after `k` turns: the flags are what greedy suppression keeps after the first `k` rows. -/
theorem iter_at (V : Valuation τ sig (Elt Ideal)) (M : FVec Ideal S1000x1000 .f32) (valid : ℕ → Prop) (ov : ℕ → ℕ → Prop)
    (h0 : V (Proc.devRef .tc main_v79_0) = M) (h1 : V (Proc.devRef .tc main_v79_1) = iotaInDim S1000 32 0)
    (h3 : V (Proc.devRef .tc main_v79_3) = constantI S_ 32 0#32)
    (hv : ∀ j : Fin 1000, (V (Proc.devRef .tc main_v79_4) : IVec S1000 1) (ix1 j) = 1#1 ↔ valid j.val)
    (ho : ∀ i j : Fin 1000, thr < M (ix2 i j) ↔ ov i.val j.val) :
    ∀ k ≤ 1000, STEP^[k] V (Proc.devRef .tc main_v79_0) = M
      ∧ STEP^[k] V (Proc.devRef .tc main_v79_1) = iotaInDim S1000 32 0
      ∧ STEP^[k] V (Proc.devRef .tc main_v79_3) = constantI S_ 32 (BitVec.ofNat 32 k)
      ∧ ∀ j : Fin 1000, (STEP^[k] V (Proc.devRef .tc main_v79_4) : IVec S1000 1) (ix1 j) = 1#1 ↔ keep valid ov k j.val
  | 0, _ => ⟨h0, h1, h3, hv⟩
  | k + 1, hk => by
    obtain ⟨i0, i1, i3, i4⟩ := iter_at V M valid ov h0 h1 h3 hv ho k (by omega)
    rw [Function.iterate_succ_apply']
    refine ⟨(STEP_main_v79_0 _).trans i0, (STEP_main_v79_1 _).trans i1, (STEP_main_v79_3 _).trans ?_, fun j => ?_⟩
    · unfold step_main_v79_3
      rw [i3, id_eq]
      funext x
      exact (BitVec.ofNat_add ..).symm
    · rw [STEP_main_v79_4]
      refine (step_at _ M _ k (by omega) i0 i1 i3 rfl j).trans ?_
      rw [i4 j, i4 ⟨k, by omega⟩, ho]
      rfl

end Cert.ReferenceIdeal.Nms

end
-- ==== Proof.Nms.ROut.lean ====
/- What the reference's operations around its loop compute, over any boxes, labels, probabilities and flags. -/
module

public import proofs.«01_k».proof.Proof.Nms.KVal
public import proofs.«01_k».proof.Proof.Nms.RIou
public import proofs.«01_k».proof.Proof.Nms.RTrip

@[expose] public section

set_option maxRecDepth 16384

noncomputable section

namespace Cert.ReferenceIdeal.Nms

open Idealize.ShloMosaic Idealize.ShloMosaic.TcCoe Idealize.ShloMosaic.StableHlo
open Cert.ReferenceIdeal Cert.ReferenceIdeal.Gen Cert.Nms

/-- The loop's matrix exceeds the threshold where the moved boxes overlap. -/
theorem thr_iff (x : FVec Ideal S1000x4 .f32) (l : IVec S1000 32) (i j : Fin 1000) :
    thr < iouR (movedR x l) (ix2 i j) ↔ ovl (topOf (bxf x)) (bxf x) (clf l) i.val j.val := by
  rw [iouR_at, show (fun k => movedR x l (ix2 i k)) = moved (topOf (bxf x)) (bxf x i) (clf l i) from funext fun k => movedR_at x l i k,
    show (fun k => movedR x l (ix2 j k)) = moved (topOf (bxf x)) (bxf x j) (clf l j) from funext fun k => movedR_at x l j k]
  exact ⟨fun h => ⟨i.isLt, j.isLt, h⟩, fun ⟨_, _, h⟩ => h⟩

/-- The loop's first flags: the boxes probable enough. -/
theorem good_iff (v : FVec Ideal S1000 .f32) (j : Fin 1000) :
    cmpf (F := Ideal) .ogt v (broadcastInDim S1000 ![] bcast_S_S1000 (constant S_ .f32 0x3C23D70A#32)) (ix1 j) = 1#1 ↔ good (vlf v) j.val := by
  rw [show cmpf (F := Ideal) .ogt v (broadcastInDim S1000 ![] bcast_S_S1000 (constant S_ .f32 0x3C23D70A#32)) (ix1 j)
    = BitVec.ofBool (decide (low < v (ix1 j))) from by pointwise []; rfl, ofBool_eq_one_iff]
  exact ⟨fun h => ⟨j.isLt, h⟩, fun ⟨_, h⟩ => h⟩

/-- A flag as a number. -/
theorem uitofp_at (b : BitVec 1) (p : Prop) (h : b = 1#1 ↔ p) : (FloatOps.uitofp .f32 b : Ideal .f32) = ind p := by
  by_cases hb : b = 1#1
  · rw [ind_true (h.1 hb), hb]
    show (((1#1 : BitVec 1).toNat : ℝ) : EReal) = 1
    simp
  · rw [ind_false (fun hp => hb (h.2 hp)), show b = 0#1 from by clear h; revert b; decide]
    show (((0#1 : BitVec 1).toNat : ℝ) : EReal) = 0
    simp

section
variable (x : FVec Ideal S1000x4 .f32) (l : IVec S1000 32) (v : FVec Ideal S1000 .f32) (K : IVec S1000 1)
  (h : ∀ j : Fin 1000, K (ix1 j) = 1#1 ↔ survives x l v j)
include h

theorem boxes_of : mulf (F := Ideal) (mulf x (broadcastInDim S1000x4 ![0, 1] bcast_S1000x1_S1000x4_0_1
        (broadcastInDim S1000x1 ![0] bcast_S1000_S1000x1_0 (uitofp .f32 K))))
      (broadcastInDim S1000x4 ![0, 1] bcast_S1x4_S1000x4_0_1 (broadcastInDim S1x4 ![1] bcast_S4_S1x4_1 (constant (F := Ideal) S4 .f32 0x44000000#32)))
    = outBoxes x l v := by
  funext j; idx_vars j
  pointwise []
  rw [uitofp_at _ _ (h j0)]
  rfl

theorem labels_of : select K (addi l (broadcastInDim S1000 ![] bcast_S_S1000 (constantI S_ 32 1#32)))
      (broadcastInDim S1000 ![] bcast_S_S1000 (constantI S_ 32 0#32)) = outLabels x l v := by
  funext j; idx_vars j
  pointwise []
  unfold outLabels
  by_cases hs : survives x l v j0
  · rw [(h j0).2 hs]
    exact (if_pos hs).symm
  · exact (if_neg (fun e => hs ((h j0).1 e))).trans (if_neg hs).symm

theorem probs_of : mulf (F := Ideal) v (uitofp .f32 K) = outProbs x l v := by
  funext j; idx_vars j
  pointwise []
  rw [uitofp_at _ _ (h j0)]
  rfl

end

end Cert.ReferenceIdeal.Nms

end
-- ==== Proof.Nms.RVal.lean ====
/- The reference's three results, index by index, over the thousand best boxes, their labels and their probabilities. -/
module

public import proofs.«01_k».proof.Proof.Nms.RHost
public import proofs.«01_k».proof.Proof.Nms.ROut
public import proofs.«01_k».proof.Proof.Nms.RTrip

@[expose] public section

set_option maxRecDepth 16384

noncomputable section

namespace Cert.ReferenceIdeal.Nms

open Idealize.ShloMosaic Idealize.ShloMosaic.TcCoe Idealize.ShloMosaic.StableHlo
open Cert.ReferenceIdeal Cert.ReferenceIdeal.Gen Cert.ReferenceIdeal.Value Cert.Nms
open Cert.KernelIdeal.Nms (flat)

variable (m : (ℓ : Loc nD τ sig) → Buf (Elt Ideal) ℓ) (c : Dev nD)

/-- The scores and the boxes the reference is launched with. -/
abbrev scoresR : FVec Ideal S1x20000x81 .f32 := m ((c.tc : Thread nD τ).loc main_arg0)
abbrev boxesR : FVec Ideal S1x20000x4 .f32 := m ((c.tc : Thread nD τ).loc main_arg1)

/-- The thousand best boxes, their labels and their probabilities. -/
abbrev valR : FVec Ideal S1000 .f32 := bestVals (rowMax (fore (scoresR m c)))
abbrev posR : IVec S1000 32 := bestPos (rowMax (fore (scoresR m c)))
abbrev bxR : FVec Ideal S1000x4 .f32 := takeBoxes (flat (boxesR m c)) (posR m c)
abbrev lbR : IVec S1000 32 := takeLabels (rowArg (fore (scoresR m c))) (posR m c)

/-- The contents after each stretch before the loop. -/
def X1 : Valuation τ sig (Elt Ideal) := after hostOps0 (launchContents m c)
def X2 : Valuation τ sig (Elt Ideal) := after hostOps0_1 (X1 m c)
def X3 : Valuation τ sig (Elt Ideal) := after hostOps0_2 (X2 m c)
def X4 : Valuation τ sig (Elt Ideal) := after hostOps0_3 (X3 m c)
def X5 : Valuation τ sig (Elt Ideal) := after hostOps0_4 (X4 m c)
def X6 : Valuation τ sig (Elt Ideal) := after hostOps0_5 (X5 m c)

theorem entry_eq : entryContents preI m c = X6 m c := rfl

theorem X2_of (r : Ref sig .tc) (h : r ∉ hostOps0_1_W) : X2 m c (Proc.devRef .tc r) = X1 m c (Proc.devRef .tc r) :=
  after_of_writes_sub _ _ hostOps0_1_writes h
theorem X3_of (r : Ref sig .tc) (h : r ∉ hostOps0_2_W) : X3 m c (Proc.devRef .tc r) = X2 m c (Proc.devRef .tc r) :=
  after_of_writes_sub _ _ hostOps0_2_writes h
theorem X4_of (r : Ref sig .tc) (h : r ∉ hostOps0_3_W) : X4 m c (Proc.devRef .tc r) = X3 m c (Proc.devRef .tc r) :=
  after_of_writes_sub _ _ hostOps0_3_writes h
theorem X5_of (r : Ref sig .tc) (h : r ∉ hostOps0_4_W) : X5 m c (Proc.devRef .tc r) = X4 m c (Proc.devRef .tc r) :=
  after_of_writes_sub _ _ hostOps0_4_writes h
theorem X6_of (r : Ref sig .tc) (h : r ∉ hostOps0_5_W) : X6 m c (Proc.devRef .tc r) = X5 m c (Proc.devRef .tc r) :=
  after_of_writes_sub _ _ hostOps0_5_writes h

theorem x3_values : X3 m c (Proc.devRef .tc main_values) = valR m c := by
  refine (ops2_values (X2 m c)).trans ?_
  rw [X2_of m c main_v3 (by decide +kernel)]
  exact congrArg bestVals (ops0_v3 (launchContents m c))

theorem x3_indices : X3 m c (Proc.devRef .tc main_indices) = posR m c := by
  refine (ops2_indices (X2 m c)).trans ?_
  rw [X2_of m c main_v3 (by decide +kernel)]
  exact congrArg bestPos (ops0_v3 (launchContents m c))

theorem x3_v1 : X3 m c (Proc.devRef .tc main_v1) = flat (boxesR m c) :=
  (X3_of m c main_v1 (by decide +kernel)).trans ((X2_of m c main_v1 (by decide +kernel)).trans (ops0_v1 (launchContents m c)))

theorem x3_v4 : X3 m c (Proc.devRef .tc main_v4) = rowArg (fore (scoresR m c)) :=
  (X3_of m c main_v4 (by decide +kernel)).trans ((ops1_v4 (X1 m c)).trans (congrArg rowArg (ops0_v2 (launchContents m c))))

theorem x5_v5 : X5 m c (Proc.devRef .tc main_v5) = bxR m c := by
  refine (X5_of m c main_v5 (by decide +kernel)).trans ((ops3_v5 (X3 m c)).trans ?_)
  rw [x3_v1 m c, x3_indices m c]

theorem x5_v6 : X5 m c (Proc.devRef .tc main_v6) = lbR m c := by
  refine (ops4_v6 (X4 m c)).trans ?_
  rw [X4_of m c main_v4 (by decide +kernel), X4_of m c main_indices (by decide +kernel), x3_v4 m c, x3_indices m c]

theorem x5_values : X5 m c (Proc.devRef .tc main_values) = valR m c :=
  (X5_of m c main_values (by decide +kernel)).trans ((X4_of m c main_values (by decide +kernel)).trans (x3_values m c))

theorem x5_cst : X5 m c (Proc.devRef .tc main_cst) = constant (F := Ideal) S4 .f32 0x44000000#32 :=
  (X5_of m c main_cst (by decide +kernel)).trans ((X4_of m c main_cst (by decide +kernel)).trans
    ((X3_of m c main_cst (by decide +kernel)).trans ((X2_of m c main_cst (by decide +kernel)).trans (ops0_cst (launchContents m c)))))

theorem x6_v79_0 : X6 m c (Proc.devRef .tc main_v79_0) = iouR (movedR (bxR m c) (lbR m c)) := by
  refine (ops5_v79_0 (X5 m c)).trans ?_
  rw [x5_v5 m c, x5_v6 m c]

theorem x6_v79_4 (j : Fin 1000) : (X6 m c (Proc.devRef .tc main_v79_4) : IVec S1000 1) (ix1 j) = 1#1 ↔ good (vlf (valR m c)) j.val := by
  rw [show X6 m c (Proc.devRef .tc main_v79_4) = _ from ops5_v79_4 (X5 m c), x5_values m c]
  exact good_iff (valR m c) j

/-- The loop's flags when it ends. -/
abbrev flagsR : IVec S1000 1 := after condOps (atK m 1000 c) (Proc.devRef .tc main_v79_4)

theorem flags_at (j : Fin 1000) : flagsR m c (ix1 j) = 1#1 ↔ survives (bxR m c) (lbR m c) (valR m c) j := by
  unfold flagsR
  rw [loop_exit m c main_v79_4 (by decide +kernel), atK_agree m c 1000 main_v79_4 (by decide)]
  exact (iter_at (entryContents preI m c) (iouR (movedR (bxR m c) (lbR m c))) (good (vlf (valR m c)))
    (ovl (topOf (bxf (bxR m c))) (bxf (bxR m c)) (clf (lbR m c))) (x6_v79_0 m c) (ops5_v79_1 (X5 m c)) (ops5_v79_3 (X5 m c))
    (x6_v79_4 m c) (thr_iff (bxR m c) (lbR m c)) 1000 le_rfl).2.2.2 j

/-- A buffer the loop does not write, when the loop ends. -/
theorem exit_of (r : Ref sig .tc) (h5 : r ∉ hostOps0_5_W) (hc : r ∉ condOps_W) (hb : r ∉ while0Ops0_W) :
    after condOps (atK m 1000 c) (Proc.devRef .tc r) = X5 m c (Proc.devRef .tc r) := by
  rw [loop_exit m c r hc, atK_keep m c r hc hb, entry_eq, X6_of m c r h5]

theorem v86_eq : finalContents condOps preI bodyI postI 1000 m c (Proc.devRef .tc main_v86) = outBoxes (bxR m c) (lbR m c) (valR m c) := by
  show afterL postI (after condOps (atK m 1000 c)) (Proc.devRef .tc main_v86) = _
  rw [post_v86, exit_of m c main_v5 (by decide +kernel) (by decide +kernel) (by decide +kernel),
    exit_of m c main_cst (by decide +kernel) (by decide +kernel) (by decide +kernel), x5_v5 m c, x5_cst m c]
  exact boxes_of (bxR m c) (lbR m c) (valR m c) _ (flags_at m c)

theorem v89_eq : finalContents condOps preI bodyI postI 1000 m c (Proc.devRef .tc main_v89) = outLabels (bxR m c) (lbR m c) (valR m c) := by
  show afterL postI (after condOps (atK m 1000 c)) (Proc.devRef .tc main_v89) = _
  rw [post_v89, exit_of m c main_v6 (by decide +kernel) (by decide +kernel) (by decide +kernel), x5_v6 m c]
  exact labels_of (bxR m c) (lbR m c) (valR m c) _ (flags_at m c)

theorem v90_eq : finalContents condOps preI bodyI postI 1000 m c (Proc.devRef .tc main_v90) = outProbs (bxR m c) (lbR m c) (valR m c) := by
  show afterL postI (after condOps (atK m 1000 c)) (Proc.devRef .tc main_v90) = _
  rw [post_v90, exit_of m c main_values (by decide +kernel) (by decide +kernel) (by decide +kernel), x5_values m c]
  exact probs_of (bxR m c) (lbR m c) (valR m c) _ (flags_at m c)

end Cert.ReferenceIdeal.Nms

end
-- ==== Proof.Nms.ArgMax.lean ====
/- The first place of the greatest of finitely many extended reals: what a fold over (value, place) pairs and a fold of the
   least place both find. -/
module

public import proofs.«01_k».proof.Proof.Nms.RHost
public import Idealize.ShloMosaic.Lib.DynamicIndex

@[expose] public section

noncomputable section

namespace Cert.Nms

open Idealize.ShloMosaic

/-- Pair `q` is at least as good as pair `p`: a greater value, or the same one at no later a place. -/
def Beats (p q : Ideal .f32 × BitVec 32) : Prop := p.1 < q.1 ∨ p.1 = q.1 ∧ q.2.toInt ≤ p.2.toInt

theorem Beats.refl (p : Ideal .f32 × BitVec 32) : Beats p p := .inr ⟨rfl, le_rfl⟩

theorem Beats.trans {p q r : Ideal .f32 × BitVec 32} (h : Beats p q) (h' : Beats q r) : Beats p r := by
  rcases h with h | ⟨h, k⟩ <;> rcases h' with h' | ⟨h', k'⟩
  · exact .inl (lt_trans h h')
  · exact .inl (h' ▸ h)
  · exact .inl (h ▸ h')
  · exact .inr ⟨h.trans h', k'.trans k⟩

/-- The reference's two-operand reducer keeps one of its pairs, the better one. -/
theorem reducer_spec (a b : Ideal .f32 × BitVec 32) :
    (Cert.ReferenceIdeal.reducer_argmax_f32_i32 a b = a ∨ Cert.ReferenceIdeal.reducer_argmax_f32_i32 a b = b)
      ∧ Beats a (Cert.ReferenceIdeal.reducer_argmax_f32_i32 a b) ∧ Beats b (Cert.ReferenceIdeal.reducer_argmax_f32_i32 a b) := by
  obtain ⟨x, i⟩ := a
  obtain ⟨y, k⟩ := b
  have hne : FloatOps.cmpf .une x x = 0#1 := by simp [Ideal.cmpf_def, Ideal.cmp]
  rcases lt_trichotomy (α := EReal) x y with h | h | h
  · have e : Cert.ReferenceIdeal.reducer_argmax_f32_i32 (F := Ideal) (x, i) (y, k) = (y, k) := by
      have h1 : FloatOps.cmpf .ogt x y = 0#1 := by
        rw [Ideal.cmpf_def, Ideal.cmp, decide_eq_false (lt_asymm (α := EReal) h)]; rfl
      have h2 : FloatOps.cmpf .oeq x y = 0#1 := by simp [Ideal.cmpf_def, Ideal.cmp, ne_of_lt h]
      simp only [Cert.ReferenceIdeal.reducer_argmax_f32_i32, hne, h1, h2]
      rw [show ∀ b : BitVec 1, IntOp.andi 0#1 b = 0#1 by decide]
      rfl
    rw [e]
    exact ⟨.inr rfl, .inl h, Beats.refl _⟩
  · subst h
    have h1 : FloatOps.cmpf .ogt x x = 0#1 := by simp [Ideal.cmpf_def, Ideal.cmp]
    have h2 : FloatOps.cmpf .oeq x x = 1#1 := by simp [Ideal.cmpf_def, Ideal.cmp]
    by_cases hk : i.toInt < k.toInt
    · have e : Cert.ReferenceIdeal.reducer_argmax_f32_i32 (F := Ideal) (x, i) (x, k) = (x, i) := by
        simp only [Cert.ReferenceIdeal.reducer_argmax_f32_i32, hne, h1, h2, IntOp.cmpi_slt.2 hk]
        rfl
      rw [e]
      exact ⟨.inl rfl, Beats.refl _, .inr ⟨rfl, le_of_lt hk⟩⟩
    · have h3 : IntOp.cmpi .slt i k = 0#1 := by
        have := mt IntOp.cmpi_slt.1 hk
        generalize IntOp.cmpi .slt i k = b at this
        revert b; decide
      have e : Cert.ReferenceIdeal.reducer_argmax_f32_i32 (F := Ideal) (x, i) (x, k) = (x, k) := by
        simp only [Cert.ReferenceIdeal.reducer_argmax_f32_i32, hne, h1, h2, h3]
        rfl
      rw [e]
      exact ⟨.inr rfl, .inr ⟨rfl, not_lt.1 hk⟩, Beats.refl _⟩
  · have e : Cert.ReferenceIdeal.reducer_argmax_f32_i32 (F := Ideal) (x, i) (y, k) = (x, i) := by
      have h1 : FloatOps.cmpf .ogt x y = 1#1 := by simp [Ideal.cmpf_def, Ideal.cmp, h]
      simp only [Cert.ReferenceIdeal.reducer_argmax_f32_i32, hne, h1]
      rw [show ∀ b : BitVec 1, IntOp.ori (IntOp.ori 1#1 0#1) b = 1#1 by decide]
      rfl
    rw [e]
    exact ⟨.inl rfl, Beats.refl _, .inl h⟩

/-- Folding the reducer over a list gives a pair met on the way, and the best of them. -/
theorem foldl_reducer (l : List (Ideal .f32 × BitVec 32)) : ∀ a : Ideal .f32 × BitVec 32,
    (l.foldl Cert.ReferenceIdeal.reducer_argmax_f32_i32 a = a ∨ l.foldl Cert.ReferenceIdeal.reducer_argmax_f32_i32 a ∈ l)
      ∧ Beats a (l.foldl Cert.ReferenceIdeal.reducer_argmax_f32_i32 a)
      ∧ ∀ p ∈ l, Beats p (l.foldl Cert.ReferenceIdeal.reducer_argmax_f32_i32 a) := by
  induction l with
  | nil => exact fun a => ⟨.inl rfl, Beats.refl a, fun p hp => by simp at hp⟩
  | cons b l ih =>
    intro a
    obtain ⟨hs, ha, hb⟩ := reducer_spec a b
    obtain ⟨ht, hi, hl⟩ := ih (Cert.ReferenceIdeal.reducer_argmax_f32_i32 a b)
    rw [List.foldl_cons]
    refine ⟨?_, ha.trans hi, fun p hp => ?_⟩
    · rcases ht with ht | ht
      · rw [ht]
        rcases hs with hs | hs
        · exact .inl hs
        · exact .inr (by rw [hs]; exact List.mem_cons_self ..)
      · exact .inr (List.mem_cons_of_mem _ ht)
    · rcases List.mem_cons.1 hp with rfl | hp
      · exact hb.trans hi
      · exact hl p hp

/-- A greatest value of `n + 1`, the first one not above the others'. -/
theorem fold_max_succ {n : ℕ} (b : Ideal .f32) (f : Fin (n + 1) → Ideal .f32) (c : Fin n) (h : f 0 ≤ f c.succ) :
    Finset.fold max b f Finset.univ = Finset.fold max b (fun r : Fin n => f r.succ) Finset.univ := by
  apply le_antisymm
  · refine (Finset.fold_max_le (β := EReal) _).2 ⟨(Finset.le_fold_max (β := EReal) _).2 (.inl le_rfl), fun r _ => ?_⟩
    refine (Finset.le_fold_max (β := EReal) _).2 (.inr ?_)
    rcases Fin.eq_zero_or_eq_succ r with rfl | ⟨k, rfl⟩
    · exact ⟨c, Finset.mem_univ _, h⟩
    · exact ⟨k, Finset.mem_univ _, le_rfl⟩
  · refine (Finset.fold_max_le (β := EReal) _).2 ⟨(Finset.le_fold_max (β := EReal) _).2 (.inl le_rfl), fun r _ => ?_⟩
    exact (Finset.le_fold_max (β := EReal) _).2 (.inr ⟨r.succ, Finset.mem_univ _, le_rfl⟩)

/-- A fold of the greatest value, where one is attained. -/
theorem fold_max_eq {ι : Type} [Fintype ι] (f : ι → Ideal .f32) (c : ι) (h : ∀ r, f r ≤ f c) :
    Finset.fold max (Ideal.ofBits .f32 0xFF800000#32) f Finset.univ = f c := by
  rw [ofBits_neg_inf]
  apply le_antisymm
  · exact (Finset.fold_max_le (β := EReal) _).2 ⟨bot_le, fun r _ => h r⟩
  · exact (Finset.le_fold_max (β := EReal) _).2 (.inr ⟨c, Finset.mem_univ _, le_rfl⟩)

theorem toInt_minsi (a b : BitVec 32) : (IntOp.minsi a b).toInt = min a.toInt b.toInt := by
  by_cases h : a.toInt < b.toInt
  · simp [IntOp.minsi, BitVec.slt_iff_toInt_lt, h, le_of_lt h]
  · simp [IntOp.minsi, BitVec.slt_iff_toInt_lt, h, not_lt.1 h]

/-- A fold of the least word, where it is attained. -/
theorem fold_minsi_eq {ι : Type} [Fintype ι] (b : BitVec 32) (g : ι → BitVec 32) (w : BitVec 32) (c : ι) (hc : g c = w)
    (h : ∀ r, w.toInt ≤ (g r).toInt) (hb : w.toInt ≤ b.toInt) : Finset.fold IntOp.minsi b g Finset.univ = w := by
  apply BitVec.eq_of_toInt_eq
  rw [← Finset.fold_hom (m := BitVec.toInt) (op' := min) toInt_minsi]
  apply le_antisymm
  · exact (Finset.fold_min_le _).2 (.inr ⟨c, Finset.mem_univ _, by rw [hc]⟩)
  · exact (Finset.le_fold_min _).2 ⟨hb, fun r _ => h r⟩

end Cert.Nms

end
-- ==== Proof.Nms.Region0Eq.lean ====
/- Where every score is above minus one, the first region's maxima and labels are the reference's: the column it masks
   to minus one never wins. -/
module

public import proofs.«01_k».proof.Proof.Nms.ArgMax

@[expose] public section

set_option maxRecDepth 16384

noncomputable section

namespace Cert.Nms

open Idealize.ShloMosaic
open Cert.KernelIdeal Cert.KernelIdeal.Gen Cert.KernelIdeal.Nms Cert.ReferenceIdeal.Nms

/-- The pairs the reference folds over in row `n`. -/
def fiber (y : FVec Ideal Cert.ReferenceIdeal.S20000x80 .f32) (n : Fin 20000) : List (Ideal .f32 × BitVec 32) :=
  Host.argReduceFiber y (iotaInDim Cert.ReferenceIdeal.S20000x80 32 1) Cert.ReferenceIdeal.Gen.reducesTo_S20000x80_S20000_d1 (ix1 n)

theorem mem_argReduceFiber {s t : Shape} {axes : List (Fin s.rank)} {α β : Type} (x : s.Idx → α) (y : s.Idx → β) (h : s.ReducesTo axes t)
    (j : t.Idx) (p : α × β) : p ∈ Host.argReduceFiber x y h j ↔ ∃ i : s.Idx, h.drop i = j ∧ p = (x i, y i) := by
  unfold Host.argReduceFiber
  rw [List.mem_map]
  constructor
  · rintro ⟨q, hq, rfl⟩
    exact ⟨_, of_decide_eq_true (List.mem_filter.1 hq).2, rfl⟩
  · rintro ⟨i, hi, rfl⟩
    refine ⟨s.rowMajor i, List.mem_filter.2 ⟨List.mem_finRange _, ?_⟩, ?_⟩
    · rw [Equiv.symm_apply_apply]
      exact decide_eq_true hi
    · rw [Equiv.symm_apply_apply]

/-- They are its scores with their columns. -/
theorem mem_fiber (y : FVec Ideal Cert.ReferenceIdeal.S20000x80 .f32) (n : Fin 20000) (p : Ideal .f32 × BitVec 32) :
    p ∈ fiber y n ↔ ∃ k : Fin 80, p = (y (ix2 n k), BitVec.ofNat 32 k.val) := by
  unfold fiber
  rw [mem_argReduceFiber]
  constructor
  · rintro ⟨i, hd, rfl⟩
    idx_vars i
    have h0 : i0.val = n.val :=
      (Shape.ReducesTo.drop_apply_val_of_eq Cert.ReferenceIdeal.Gen.reducesTo_S20000x80_S20000_d1 (ix2 i0 i1) 0 0).symm.trans
        (congrArg Fin.val (congrFun hd 0))
    obtain rfl : i0 = n := Fin.ext h0
    exact ⟨i1, rfl⟩
  · rintro ⟨k, rfl⟩
    refine ⟨ix2 n k, funext fun a => ?_, rfl⟩
    fin_cases a
    exact Fin.ext (Shape.ReducesTo.drop_apply_val_of_eq Cert.ReferenceIdeal.Gen.reducesTo_S20000x80_S20000_d1 (ix2 n k) 0 0)

theorem rowArg_eq (y : FVec Ideal Cert.ReferenceIdeal.S20000x80 .f32) (n : Fin 20000) :
    rowArg y (ix1 n) = ((fiber y n).foldl Cert.ReferenceIdeal.reducer_argmax_f32_i32 (Ideal.ofBits .f32 0xFF800000#32, 0#32)).2 := by
  unfold rowArg fiber
  rw [Ideal.argReduce_eq_reduce2, Host.reduce2_eq_foldl_fiber]
  generalize Host.argReduceFiber y (iotaInDim Cert.ReferenceIdeal.S20000x80 32 1) Cert.ReferenceIdeal.Gen.reducesTo_S20000x80_S20000_d1 (ix1 n) = l
  rfl

/-- Folding the reducer over pairs of scores with their columns finds the first column of the greatest score. -/
theorem foldl_first (l : List (Ideal .f32 × BitVec 32)) (z : Fin 80 → Ideal .f32) (hz : ∀ k, ⊥ < z k)
    (hm : ∀ p, p ∈ l ↔ ∃ k : Fin 80, p = (z k, BitVec.ofNat 32 k.val)) :
    ∃ k : Fin 80, (l.foldl Cert.ReferenceIdeal.reducer_argmax_f32_i32 (Ideal.ofBits .f32 0xFF800000#32, 0#32)).2 = BitVec.ofNat 32 k.val
      ∧ ∀ r : Fin 80, z r < z k ∨ z r = z k ∧ k.val ≤ r.val := by
  obtain ⟨ht, _, hl⟩ := foldl_reducer l (Ideal.ofBits .f32 0xFF800000#32, 0#32)
  generalize l.foldl Cert.ReferenceIdeal.reducer_argmax_f32_i32 (Ideal.ofBits .f32 0xFF800000#32, 0#32) = w at ht hl ⊢
  have hw : w ∈ l := by
    refine ht.resolve_left fun hw => ?_
    have hb := hl _ ((hm _).2 ⟨0, rfl⟩)
    rw [hw, ofBits_neg_inf] at hb
    rcases hb with hb | ⟨hb, _⟩
    · exact absurd (lt_trans (hz 0) hb) (lt_irrefl _)
    · exact absurd hb (ne_of_gt (hz 0))
  obtain ⟨k, hk⟩ := (hm w).1 hw
  refine ⟨k, by rw [hk], fun r => ?_⟩
  have hb := hl _ ((hm _).2 ⟨r, rfl⟩)
  rw [hk] at hb
  rcases hb with hb | ⟨hb, hc⟩
  · exact .inl hb
  · refine .inr ⟨hb, ?_⟩
    rw [toInt_ofNat_of_lt (by omega), toInt_ofNat_of_lt (by omega)] at hc
    omega

/-- The reference's label is the first column of the greatest score. -/
theorem rowArg_spec (y : FVec Ideal Cert.ReferenceIdeal.S20000x80 .f32) (n : Fin 20000) (hy : ∀ k : Fin 80, ⊥ < y (ix2 n k)) :
    ∃ k : Fin 80, rowArg y (ix1 n) = BitVec.ofNat 32 k.val
      ∧ ∀ r : Fin 80, y (ix2 n r) < y (ix2 n k) ∨ y (ix2 n r) = y (ix2 n k) ∧ k.val ≤ r.val := by
  rw [rowArg_eq]
  exact foldl_first (fiber y n) (fun k => y (ix2 n k)) hy (mem_fiber y n)

/-- A row's scores with the first one masked. -/
def masked (x : FVec Ideal S1x20000x81 .f32) (n : Fin 20000) (r : Fin 81) : Ideal .f32 :=
  Scalar.select (IntOp.cmpi .sge (BitVec.ofNat 32 r.val) 1#32) (x (ix3 0 n r)) (Ideal.ofBits .f32 0xBF800000#32)

theorem masked_zero (x : FVec Ideal S1x20000x81 .f32) (n : Fin 20000) : masked x n 0 = Ideal.ofBits .f32 0xBF800000#32 := by
  unfold masked Scalar.select
  exact if_neg (by decide)

theorem fore_at (x : FVec Ideal S1x20000x81 .f32) (n : Fin 20000) (k : Fin 80) : fore x (ix2 n k) = x (ix3 0 n k.succ) := by
  pointwise [fore]
  exact congrArg (fun r => x (ix3 0 n r)) (Fin.ext (by simp [Nat.add_comm]))

theorem masked_succ (x : FVec Ideal S1x20000x81 .f32) (n : Fin 20000) (k : Fin 80) : masked x n k.succ = fore x (ix2 n k) := by
  rw [fore_at]
  refine if_pos (IntOp.cmpi_sge.2 ?_)
  rw [Fin.val_succ, toInt_ofNat_of_lt (k := k.val + 1) (by omega), show (1#32 : BitVec 32).toInt = 1 by decide]
  omega

theorem kMax_at (x : FVec Ideal S1x20000x81 .f32) (n : Fin 20000) :
    kMax x (ix1 n) = Finset.fold max (Ideal.ofBits .f32 0xFF800000#32) (masked x n) Finset.univ := by
  pointwise [kMax, k0_pay2, k0_pay1]
  rfl

theorem kLab_at (x : FVec Ideal S1x20000x81 .f32) (n : Fin 20000) :
    kLab x (ix1 n) = Finset.fold IntOp.minsi 2147483647#32
      (fun r : Fin 81 => if masked x n r = Finset.fold max (Ideal.ofBits .f32 0xFF800000#32) (masked x n) Finset.univ
        then IntOp.subi (BitVec.ofNat 32 r.val) 1#32 else 80#32) Finset.univ := by
  pointwise [kLab, k0_pay3, k0_pay2, k0_pay1]
  rfl

theorem rowMax_at (y : FVec Ideal Cert.ReferenceIdeal.S20000x80 .f32) (n : Fin 20000) :
    rowMax y (ix1 n) = Finset.fold max (Ideal.ofBits .f32 0xFF800000#32) (fun k : Fin 80 => y (ix2 n k)) Finset.univ := by
  pointwise [rowMax]

section
variable (x : FVec Ideal S1x20000x81 .f32) (hx : ∀ i, Ideal.ofBits .f32 0xBF800000#32 < x i)
include hx

theorem masked_fold (n : Fin 20000) : Finset.fold max (Ideal.ofBits .f32 0xFF800000#32) (masked x n) Finset.univ
    = Finset.fold max (Ideal.ofBits .f32 0xFF800000#32) (fun k : Fin 80 => fore x (ix2 n k)) Finset.univ := by
  refine (fold_max_succ _ (masked x n) 0 ?_).trans ?_
  · rw [masked_zero, masked_succ, fore_at]
    exact le_of_lt (hx _)
  · exact congrArg (fun f => Finset.fold max (Ideal.ofBits .f32 0xFF800000#32) f Finset.univ) (funext fun k => masked_succ x n k)

/-- The maxima agree. -/
theorem kMax_eq : kMax x = rowMax (fore x) := by
  funext j; idx_vars j
  rw [kMax_at, rowMax_at]
  exact masked_fold x hx j0

/-- The labels agree. -/
theorem kLab_eq : kLab x = rowArg (fore x) := by
  funext j; idx_vars j
  obtain ⟨k, hk, hr⟩ := rowArg_spec (fore x) j0 (fun k => by rw [fore_at]; exact lt_of_le_of_lt bot_le (hx _))
  have hle : ∀ r : Fin 80, fore x (ix2 j0 r) ≤ fore x (ix2 j0 k) := fun r => (hr r).elim le_of_lt fun h => le_of_eq h.1
  rw [kLab_at, hk, masked_fold x hx j0, fold_max_eq (fun r : Fin 80 => fore x (ix2 j0 r)) k hle]
  have hsub : ∀ c : Fin 80, IntOp.subi (BitVec.ofNat 32 c.succ.val) 1#32 = BitVec.ofNat 32 c.val := fun c => by
    rw [Fin.val_succ, BitVec.ofNat_add]
    exact BitVec.add_sub_cancel _ _
  refine fold_minsi_eq _ _ _ k.succ ?_ (fun r => ?_) ?_
  · rw [masked_succ, if_pos rfl, hsub]
  · rw [toInt_ofNat_of_lt (by omega)]
    rcases Fin.eq_zero_or_eq_succ r with rfl | ⟨c, rfl⟩
    · rw [masked_zero, if_neg (ne_of_lt (by rw [fore_at]; exact hx _)), show (80#32 : BitVec 32).toInt = 80 by decide]
      omega
    · rw [masked_succ, hsub]
      split
      · rename_i h
        rw [toInt_ofNat_of_lt (by omega)]
        rcases hr c with h' | ⟨_, h'⟩
        · exact absurd h (ne_of_lt h')
        · exact_mod_cast h'
      · rw [show (80#32 : BitVec 32).toInt = 80 by decide]
        omega
  · rw [toInt_ofNat_of_lt (by omega), show (2147483647#32 : BitVec 32).toInt = 2147483647 by decide]
    omega

end

end Cert.Nms

end
-- ==== Proof.Nms.InRange.lean ====
/- What the precondition says of every score and every box, and that positions of the thousand greatest are in range. -/
module

public import proofs.«01_k».proof.Pre_in_range
public import proofs.«01_k».proof.Proof.Nms.Take
public import Idealize.ShloMosaic.Lib.ReduceAll
public import Idealize.ShloMosaic.Lib.DynamicIndex

@[expose] public section

set_option maxRecDepth 16384

noncomputable section

namespace Cert.Nms

open Idealize.ShloMosaic
open Cert.KernelIdeal Cert.KernelIdeal.Gen

/-- The shape relations the precondition's operations take. -/
instance preFacts : Cert.Pre_in_range.Facts where
  bcast_S_S1x20000x81 := by decide
  reducesTo_S1x20000x81_S_d0_1_2 := by decide
  h_S_ := by decide
  bcast_S_S1x20000x4 := by decide
  reducesTo_S1x20000x4_S_d0_1_2 := by decide

theorem ofBool_true {p : Prop} [Decidable p] (h : BitVec.ofBool (decide p) = 1#1) : p := by
  by_cases hp : p
  · exact hp
  · simp [hp] at h

/-- The precondition, read back: every score is above minus one and no box's co-ordinate is negative. -/
theorem pre_iff (x : FVec Ideal S1x20000x81 .f32) (y : FVec Ideal S1x20000x4 .f32)
    (h : Cert.Pre_in_range.fn (F := Ideal) x y = fun _ => 1#1) :
    (∀ i, Ideal.ofBits .f32 0xBF800000#32 < x i) ∧ ∀ i, 0 ≤ y i := by
  have h0 := congrFun h (fun a => a.elim0)
  obtain ⟨h1, h2⟩ := IntOp.andi_eq_one.1 h0
  refine ⟨fun i => ofBool_true (Host.reduce_andi_all _ _ _ _ _ h1 i), fun i => ?_⟩
  have h3 := Host.reduce_andi_all _ _ _ _ _ h2 i
  rw [← Ideal.ofBits_zero_f32]
  exact ofBool_true h3

/-- The positions of the thousand greatest are positions. -/
theorem bestPos_lt (x : FVec Ideal S20000 .f32) (j : S1000.Idx) : ∃ q < 20000, bestPos x j = BitVec.ofNat 32 q := by
  unfold bestPos Host.topK Host.sort2
  exact ⟨_, Fin.isLt (n := 20000) _, rfl⟩

/-- Positions in range are marked so. -/
theorem takeOk_one (i : IVec S1000 32) (h : ∀ j, ∃ q < 20000, i j = BitVec.ofNat 32 q) (j : S1000.Idx) : takeOk (takePos i) j = 1#1 := by
  unfold takeOk
  refine Host.reduce_andi_one _ _ _ _ _ rfl fun k => ?_
  idx_vars k
  obtain ⟨q, hq, e⟩ := h (ix1 k0)
  pointwise [takePos]
  rw [e]
  have hs : IntOp.cmpi .slt (BitVec.ofNat 32 q) 0#32 = 0#1 := by
    have := mt IntOp.cmpi_slt.1 (show ¬ (BitVec.ofNat 32 q).toInt < (0#32).toInt by rw [toInt_ofNat_of_lt (by omega)]; simp)
    generalize IntOp.cmpi .slt (BitVec.ofNat 32 q) 0#32 = b at this
    revert b; decide
  rw [hs]
  refine IntOp.andi_eq_one.2 ⟨IntOp.cmpi_sge.2 ?_, IntOp.cmpi_sle.2 ?_⟩
  · show (0#32).toInt ≤ (BitVec.ofNat 32 q).toInt
    rw [toInt_ofNat_of_lt (k := q) (by omega)]; exact Int.natCast_nonneg q
  · show (BitVec.ofNat 32 q).toInt ≤ (19999#32).toInt
    rw [toInt_ofNat_of_lt (k := q) (by omega), show (19999#32 : BitVec 32).toInt = 19999 by decide]; omega

/-- Boxes taken at positions in range are not negative where no box is. -/
theorem takeBoxes_nonneg (b : FVec Ideal S20000x4 .f32) (i : IVec S1000 32) (h : ∀ j, ∃ q < 20000, i j = BitVec.ofNat 32 q)
    (hb : ∀ k, 0 ≤ b k) (j : S1000x4.Idx) : 0 ≤ takeBoxes b i j := by
  have e : broadcastInDim S1000x4 ![0] bcast_S1000_S1000x4_0 (takeOk (takePos i)) j = 1#1 := takeOk_one i h _
  have e2 : takeBoxes b i j = Host.gather gather_S20000x4_S1000x1_S1000x4_1_0_n_n_0_1_14 b (takePos i) j := if_pos e
  rw [e2]
  exact hb _

end Cert.Nms

end
-- ==== Proof.Nms.Agree.lean ====
/- Both programs, from the same scores and boxes in range, end with the same three results. -/
module

public import proofs.«01_k».proof.Defs
public import proofs.«01_k».proof.Proof.Nms.KRun
public import proofs.«01_k».proof.Proof.Nms.RVal
public import proofs.«01_k».proof.Proof.Nms.Region0Eq
public import proofs.«01_k».proof.Proof.Nms.InRange

@[expose] public section

noncomputable section

namespace Cert.Nms

open Idealize.ShloMosaic Idealize.ShloMosaic.TcCoe Idealize.SL.Sem
open Cert.KernelIdeal.Nms (kMax kLab flat scoresIn boxesIn bxK lbK valK posK)
open Cert.ReferenceIdeal.Nms (fore rowMax rowArg scoresR boxesR bxR lbR valR posR)

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)
  (hx : ∀ i, Ideal.ofBits .f32 0xBF800000#32 < scoresIn m c i) (hy : ∀ i, 0 ≤ boxesIn m c i)

include hy in
/-- Some co-ordinate of the thousand boxes is not negative. -/
theorem some_nonneg : ∃ i k, 0 ≤ bxK m c (ix2 i k) :=
  ⟨0, 0, takeBoxes_nonneg (flat (boxesIn m c)) (posK m c) (bestPos_lt (kMax (scoresIn m c))) (fun k => hy _) (ix2 0 0)⟩

variable (ex : scoresR m' c = scoresIn m c) (ey : boxesR m' c = boxesIn m c)
include hx ex

theorem valR_eq : valR m' c = valK m c := by
  unfold valR valK
  rw [ex, kMax_eq _ hx]

theorem posR_eq : posR m' c = posK m c := by
  unfold posR posK
  rw [ex, kMax_eq _ hx]

theorem lbR_eq : lbR m' c = lbK m c := by
  unfold lbR lbK
  rw [posR_eq m m' c hx ex, ex, kLab_eq _ hx]

include ey in
theorem bxR_eq : bxR m' c = bxK m c := by
  unfold bxR bxK
  rw [posR_eq m m' c hx ex, ey]

end

/-- The two programs' results agree. -/
theorem agree : Cert.algebraic_KernelIdeal_ReferenceIdeal_pre_in_range := by
  intro m g m' g' hp he
  have hxy := fun c => pre_iff (scoresIn m c) (boxesIn m c) (hp c)
  have hn := fun c => some_nonneg m c (hxy c).2
  have hv := fun c => valR_eq m m' c (hxy c).1 (he c).1
  have hl := fun c => lbR_eq m m' c (hxy c).1 (he c).1
  have hb := fun c => bxR_eq m m' c (hxy c).1 (he c).1 (he c).2
  refine ⟨fun c => outBoxes (bxK m c) (lbK m c) (valK m c), fun c => outLabels (bxK m c) (lbK m c) (valK m c),
    fun c => outProbs (bxK m c) (lbK m c) (valK m c), ?_, ?_⟩
  · refine (θ_run _ _ _).mono (fun r h c => ?_) (Cert.KernelIdeal.Nms.run m g)
    obtain ⟨h0, h1, h2, h3, h4⟩ := h c
    exact ⟨h0.trans (Cert.KernelIdeal.Nms.v18_eq m g c (hn c)), h1.trans (Cert.KernelIdeal.Nms.v20_eq m g c (hn c)),
      h2.trans (Cert.KernelIdeal.Nms.v22_eq m g c (hn c)), h3, h4⟩
  · refine (θ_run _ _ _).mono (fun r h c => ?_) (Cert.ReferenceIdeal.Nms.run m' g')
    obtain ⟨h0, h1, h2, h3, h4⟩ := h c
    refine ⟨h0.trans ((Cert.ReferenceIdeal.Nms.v86_eq m' c).trans ?_), h1.trans ((Cert.ReferenceIdeal.Nms.v89_eq m' c).trans ?_),
      h2.trans ((Cert.ReferenceIdeal.Nms.v90_eq m' c).trans ?_), h3, h4⟩
    · rw [hv c, hl c, hb c]
    · rw [hv c, hl c, hb c]
    · rw [hv c, hl c, hb c]

end Cert.Nms

end
-- ==== Proof.lean ====
/- The proof of the whole claim. -/
module

public import proofs.«01_k».proof.Defs
public import proofs.«01_k».proof.Proof.Gen.Kernel.Frame
public import proofs.«01_k».proof.Proof.Gen.KernelIdeal.Frame
public import proofs.«01_k».proof.Proof.Nms.Agree

@[expose] public section

noncomputable section

namespace Cert.Proof

open Idealize.ShloMosaic Idealize.SL.Sem Cert.Kernel

/-- The whole claim. -/
theorem claim : Cert.Claim := ⟨Cert.Kernel.Gen.facts, Cert.KernelIdeal.Gen.facts, Cert.ReferenceIdeal.Gen.facts, Cert.Nms.preFacts,
  fun m ρ _ => Cert.Kernel.Gen.frame m ρ, fun m ρ _ => Cert.KernelIdeal.Gen.frame m ρ, fun m ρ _ => Cert.KernelIdeal.Gen.frame m ρ,
  fun m ρ _ => Cert.ReferenceIdeal.Nms.frame m ρ, fun m ρ _ => Cert.ReferenceIdeal.Nms.frame m ρ, trivial, Cert.Nms.agree⟩

end Cert.Proof

end
